-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_positive_temperature [hPre_positive_temperature : Cert.Pre_positive_temperature.Facts] (m : (ℓ : Loc Cert.KernelIdeal.nD Cert.KernelIdeal.τ Cert.KernelIdeal.sig) → Buf (Elt Ideal) ℓ) : Prop :=
  ∀ c : Dev Cert.KernelIdeal.nD,
    (Cert.Pre_positive_temperature.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_positive_temperature [hPre_positive_temperature : Cert.Pre_positive_temperature.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_positive_temperature.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_positive_temperature [hKernelIdeal : Cert.KernelIdeal.Facts] [hPre_positive_temperature : Cert.Pre_positive_temperature.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_positive_temperature m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_positive_temperature [hReferenceIdeal : Cert.ReferenceIdeal.Facts] [hPre_positive_temperature : Cert.Pre_positive_temperature.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_positive_temperature m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_positive_temperature [hKernelIdeal : Cert.KernelIdeal.Facts] [hReferenceIdeal : Cert.ReferenceIdeal.Facts] [hPre_positive_temperature : Cert.Pre_positive_temperature.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_positive_temperature m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v239) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_positive_temperature : Cert.Pre_positive_temperature.Facts),
    quiescent_Kernel (hKernel := hKernel)
    ∧ quiescent_KernelIdeal (hKernelIdeal := hKernelIdeal)
    ∧ quiescent_KernelIdeal_pre_positive_temperature (hKernelIdeal := hKernelIdeal) (hPre_positive_temperature := hPre_positive_temperature)
    ∧ quiescent_ReferenceIdeal (hReferenceIdeal := hReferenceIdeal)
    ∧ quiescent_ReferenceIdeal_pre_positive_temperature (hReferenceIdeal := hReferenceIdeal) (hPre_positive_temperature := hPre_positive_temperature)
    ∧ preserves_Kernel_KernelIdeal
    ∧ algebraic_KernelIdeal_ReferenceIdeal_pre_positive_temperature (hKernelIdeal := hKernelIdeal) (hReferenceIdeal := hReferenceIdeal) (hPre_positive_temperature := hPre_positive_temperature)
-- ==== Pre_positive_temperature.lean ====
abbrev S10000 : Shape := ⟨1, ![10000]⟩
abbrev S10000x128 : Shape := ⟨2, ![10000, 128]⟩
abbrev S128x128 : Shape := ⟨2, ![128, 128]⟩
abbrev S128 : Shape := ⟨1, ![128]⟩
abbrev S_ : Shape := ⟨0, ![]⟩

class Facts : Prop where

variable [Facts]

def fn {F : FTy → Type} [FloatOps F] (main_arg0 : IVec S10000 32) (main_arg1 : FVec F S10000x128 .f32) (main_arg2 : FVec F S10000x128 .f32) (main_arg3 : FVec F S128x128 .f32) (main_arg4 : FVec F S128 .f32) (main_arg5 : FVec F S128x128 .f32) (main_arg6 : FVec F S128 .f32) (main_arg7 : FVec F S_ .f32) : IVec S_ 1 :=
  let main_cst : FVec F S_ .f32 := constant S_ .f32 0x00000000#32
  let main_v0 : IVec S_ 1 := cmpf .ogt main_arg7 main_cst
  main_v0
-- ==== Kernel.lean ====
abbrev S10000 : Shape := ⟨1, ![10000]⟩
abbrev S10000x128 : Shape := ⟨2, ![10000, 128]⟩
abbrev S128x128 : Shape := ⟨2, ![128, 128]⟩
abbrev S128 : Shape := ⟨1, ![128]⟩
abbrev S_ : Shape := ⟨0, ![]⟩
abbrev S10000x1 : Shape := ⟨2, ![10000, 1]⟩
abbrev S1 : Shape := ⟨1, ![1]⟩
abbrev S1x1 : Shape := ⟨2, ![1, 1]⟩
abbrev S1x128 : Shape := ⟨2, ![1, 128]⟩
abbrev S10000x256 : Shape := ⟨2, ![10000, 256]⟩
abbrev S128x1 : Shape := ⟨2, ![128, 1]⟩
abbrev S256x10000 : Shape := ⟨2, ![256, 10000]⟩
abbrev S10000x10000 : Shape := ⟨2, ![10000, 10000]⟩
abbrev S1000x128 : Shape := ⟨2, ![1000, 128]⟩
abbrev S1000x256 : Shape := ⟨2, ![1000, 256]⟩
abbrev S128x10000 : Shape := ⟨2, ![128, 10000]⟩
abbrev S80x256 : Shape := ⟨2, ![80, 256]⟩
abbrev S80x10000 : Shape := ⟨2, ![80, 10000]⟩
abbrev S80 : Shape := ⟨1, ![80]⟩
abbrev S80x1 : Shape := ⟨2, ![80, 1]⟩

abbrev nBuf : Space → Nat
  | .hbm => 64
  | .vmem => 24
  | .smem => 1
  | _ => 0

abbrev bufTy : (tb : Table) → Fin (tcTables nBuf tb) → BufTy
  | .hbm, ⟨0, _⟩ => ⟨S10000, .i32⟩
  | .hbm, ⟨1, _⟩ => ⟨S10000x128, .f32⟩
  | .hbm, ⟨2, _⟩ => ⟨S10000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .f32⟩
  | .hbm, ⟨8, _⟩ => ⟨S_, .i32⟩
  | .hbm, ⟨9, _⟩ => ⟨S10000, .i32⟩
  | .hbm, ⟨10, _⟩ => ⟨S10000, .i1⟩
  | .hbm, ⟨11, _⟩ => ⟨S_, .i32⟩
  | .hbm, ⟨12, _⟩ => ⟨S10000, .i32⟩
  | .hbm, ⟨13, _⟩ => ⟨S10000, .i32⟩
  | .hbm, ⟨14, _⟩ => ⟨S10000, .i32⟩
  | .hbm, ⟨15, _⟩ => ⟨S10000x1, .i32⟩
  | .hbm, ⟨16, _⟩ => ⟨S1, .i32⟩
  | .hbm, ⟨17, _⟩ => ⟨S_, .i32⟩
  | .hbm, ⟨18, _⟩ => ⟨S10000x1, .i32⟩
  | .hbm, ⟨19, _⟩ => ⟨S10000x1, .i1⟩
  | .hbm, ⟨20, _⟩ => ⟨S1x1, .i32⟩
  | .hbm, ⟨21, _⟩ => ⟨S10000x1, .i32⟩
  | .hbm, ⟨22, _⟩ => ⟨S10000x1, .i1⟩
  | .hbm, ⟨23, _⟩ => ⟨S10000x1, .i1⟩
  | .hbm, ⟨24, _⟩ => ⟨S_, .i1⟩
  | .hbm, ⟨25, _⟩ => ⟨S10000, .i1⟩
  | .hbm, ⟨26, _⟩ => ⟨S10000x128, .f32⟩
  | .hbm, ⟨27, _⟩ => ⟨S10000x128, .i1⟩
  | .hbm, ⟨28, _⟩ => ⟨S_, .f32⟩
  | .hbm, ⟨29, _⟩ => ⟨S10000x128, .f32⟩
  | .hbm, ⟨30, _⟩ => ⟨S10000x128, .f32⟩
  | .hbm, ⟨31, _⟩ => ⟨S_, .i32⟩
  | .hbm, ⟨32, _⟩ => ⟨S10000, .i32⟩
  | .hbm, ⟨33, _⟩ => ⟨S10000, .i1⟩
  | .hbm, ⟨34, _⟩ => ⟨S_, .i32⟩
  | .hbm, ⟨35, _⟩ => ⟨S10000, .i32⟩
  | .hbm, ⟨36, _⟩ => ⟨S10000, .i32⟩
  | .hbm, ⟨37, _⟩ => ⟨S10000, .i32⟩
  | .hbm, ⟨38, _⟩ => ⟨S10000x1, .i32⟩
  | .hbm, ⟨39, _⟩ => ⟨S1, .i32⟩
  | .hbm, ⟨40, _⟩ => ⟨S_, .i32⟩
  | .hbm, ⟨41, _⟩ => ⟨S10000x1, .i32⟩
  | .hbm, ⟨42, _⟩ => ⟨S10000x1, .i1⟩
  | .hbm, ⟨43, _⟩ => ⟨S1x1, .i32⟩
  | .hbm, ⟨44, _⟩ => ⟨S10000x1, .i32⟩
  | .hbm, ⟨45, _⟩ => ⟨S10000x1, .i1⟩
  | .hbm, ⟨46, _⟩ => ⟨S10000x1, .i1⟩
  | .hbm, ⟨47, _⟩ => ⟨S_, .i1⟩
  | .hbm, ⟨48, _⟩ => ⟨S10000, .i1⟩
  | .hbm, ⟨49, _⟩ => ⟨S10000x128, .f32⟩
  | .hbm, ⟨50, _⟩ => ⟨S10000x128, .i1⟩
  | .hbm, ⟨51, _⟩ => ⟨S_, .f32⟩
  | .hbm, ⟨52, _⟩ => ⟨S10000x128, .f32⟩
  | .hbm, ⟨53, _⟩ => ⟨S10000x128, .f32⟩
  | .hbm, ⟨54, _⟩ => ⟨S1x128, .f32⟩
  | .hbm, ⟨55, _⟩ => ⟨S1x128, .f32⟩
  | .hbm, ⟨56, _⟩ => ⟨S10000x256, .f32⟩
  | .hbm, ⟨57, _⟩ => ⟨S128x1, .f32⟩
  | .hbm, ⟨58, _⟩ => ⟨S128x1, .f32⟩
  | .hbm, ⟨59, _⟩ => ⟨S256x10000, .f32⟩
  | .hbm, ⟨60, _⟩ => ⟨S_, .f32⟩
  | .hbm, ⟨61, _⟩ => ⟨S_, .f32⟩
  | .hbm, ⟨62, _⟩ => ⟨S1x1, .f32⟩
  | .hbm, ⟨63, _⟩ => ⟨S10000x10000, .f32⟩
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S1x128, .f32⟩
  | .local _ .vmem, ⟨8, _⟩ => ⟨S1000x256, .f32⟩
  | .local _ .vmem, ⟨9, _⟩ => ⟨S1000x256, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S128x128, .f32⟩
  | .local _ .vmem, ⟨14, _⟩ => ⟨S128x1, .f32⟩
  | .local _ .vmem, ⟨15, _⟩ => ⟨S128x1, .f32⟩
  | .local _ .vmem, ⟨16, _⟩ => ⟨S256x10000, .f32⟩
  | .local _ .vmem, ⟨17, _⟩ => ⟨S80x256, .f32⟩
  | .local _ .vmem, ⟨18, _⟩ => ⟨S80x256, .f32⟩
  | .local _ .vmem, ⟨19, _⟩ => ⟨S256x10000, .f32⟩
  | .local _ .vmem, ⟨20, _⟩ => ⟨S80x10000, .f32⟩
  | .local _ .vmem, ⟨21, _⟩ => ⟨S80x10000, .f32⟩
  | .local _ .vmem, ⟨22, _⟩ => ⟨S80x10000, .f32⟩
  | .local _ .vmem, ⟨23, _⟩ => ⟨S80x10000, .i32⟩
  | .local _ .smem, ⟨0, _⟩ => ⟨S1x1, .f32⟩
  | _, _ => ⟨S10000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_call0_c : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_c_0 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_c_1 : Ref sig .tc := ⟨.hbm, 16, rfl⟩
abbrev main_call0_call0_c_2 : Ref sig .tc := ⟨.hbm, 17, rfl⟩
abbrev main_call0_call0_v6 : Ref sig .tc := ⟨.hbm, 18, rfl⟩
abbrev main_call0_call0_v7 : Ref sig .tc := ⟨.hbm, 19, rfl⟩
abbrev main_call0_call0_v8 : Ref sig .tc := ⟨.hbm, 20, rfl⟩
abbrev main_call0_call0_v9 : Ref sig .tc := ⟨.hbm, 21, rfl⟩
abbrev main_call0_call0_v10 : Ref sig .tc := ⟨.hbm, 22, rfl⟩
abbrev main_call0_call0_v11 : Ref sig .tc := ⟨.hbm, 23, rfl⟩
abbrev main_call0_call0_c_3 : Ref sig .tc := ⟨.hbm, 24, rfl⟩
abbrev main_call0_call0_v12 : Ref sig .tc := ⟨.hbm, 25, rfl⟩
abbrev main_call0_call0_v13 : Ref sig .tc := ⟨.hbm, 26, rfl⟩
abbrev main_call0_call0_v14 : Ref sig .tc := ⟨.hbm, 27, rfl⟩
abbrev main_call0_call0_cst : Ref sig .tc := ⟨.hbm, 28, rfl⟩
abbrev main_call0_call0_v15 : Ref sig .tc := ⟨.hbm, 29, rfl⟩
abbrev main_call0_v0 : Ref sig .tc := ⟨.hbm, 30, rfl⟩
abbrev main_call0_call1_c : Ref sig .tc := ⟨.hbm, 31, rfl⟩
abbrev main_call0_call1_v0 : Ref sig .tc := ⟨.hbm, 32, rfl⟩
abbrev main_call0_call1_v1 : Ref sig .tc := ⟨.hbm, 33, rfl⟩
abbrev main_call0_call1_c_0 : Ref sig .tc := ⟨.hbm, 34, rfl⟩
abbrev main_call0_call1_v2 : Ref sig .tc := ⟨.hbm, 35, rfl⟩
abbrev main_call0_call1_v3 : Ref sig .tc := ⟨.hbm, 36, rfl⟩
abbrev main_call0_call1_v4 : Ref sig .tc := ⟨.hbm, 37, rfl⟩
abbrev main_call0_call1_v5 : Ref sig .tc := ⟨.hbm, 38, rfl⟩
abbrev main_call0_call1_c_1 : Ref sig .tc := ⟨.hbm, 39, rfl⟩
abbrev main_call0_call1_c_2 : Ref sig .tc := ⟨.hbm, 40, rfl⟩
abbrev main_call0_call1_v6 : Ref sig .tc := ⟨.hbm, 41, rfl⟩
abbrev main_call0_call1_v7 : Ref sig .tc := ⟨.hbm, 42, rfl⟩
abbrev main_call0_call1_v8 : Ref sig .tc := ⟨.hbm, 43, rfl⟩
abbrev main_call0_call1_v9 : Ref sig .tc := ⟨.hbm, 44, rfl⟩
abbrev main_call0_call1_v10 : Ref sig .tc := ⟨.hbm, 45, rfl⟩
abbrev main_call0_call1_v11 : Ref sig .tc := ⟨.hbm, 46, rfl⟩
abbrev main_call0_call1_c_3 : Ref sig .tc := ⟨.hbm, 47, rfl⟩
abbrev main_call0_call1_v12 : Ref sig .tc := ⟨.hbm, 48, rfl⟩
abbrev main_call0_call1_v13 : Ref sig .tc := ⟨.hbm, 49, rfl⟩
abbrev main_call0_call1_v14 : Ref sig .tc := ⟨.hbm, 50, rfl⟩
abbrev main_call0_call1_cst : Ref sig .tc := ⟨.hbm, 51, rfl⟩
abbrev main_call0_call1_v15 : Ref sig .tc := ⟨.hbm, 52, rfl⟩
abbrev main_call0_v1 : Ref sig .tc := ⟨.hbm, 53, rfl⟩
abbrev main_call0_v2 : Ref sig .tc := ⟨.hbm, 54, rfl⟩
abbrev main_call0_v3 : Ref sig .tc := ⟨.hbm, 55, rfl⟩
abbrev main_call0_v4 : Ref sig .tc := ⟨.hbm, 56, rfl⟩
abbrev main_call0_v5 : Ref sig .tc := ⟨.hbm, 57, rfl⟩
abbrev main_call0_v6 : Ref sig .tc := ⟨.hbm, 58, rfl⟩
abbrev main_call0_v7 : Ref sig .tc := ⟨.hbm, 59, rfl⟩
abbrev main_call0_cst : Ref sig .tc := ⟨.hbm, 60, rfl⟩
abbrev main_call0_v8 : Ref sig .tc := ⟨.hbm, 61, rfl⟩
abbrev main_call0_v9 : Ref sig .tc := ⟨.hbm, 62, rfl⟩
abbrev main_v0 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc2_scratch0 : Ref sig .tc := ⟨.vmem, 22, rfl⟩
abbrev cc2_scratch1 : Ref sig .tc := ⟨.vmem, 23, rfl⟩
abbrev cc2_stg0_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc2_sem0_0 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem3_1 : DmaSem sig := 22

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := .none

abbrev stage1_0 : Fin 1 → Memref sig .tc .vmem S10000x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S128x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S128x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S256x10000 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev grid2 : Pipeline.Grid := ⟨1, ![125], ![false]⟩

@[reducible] def k2_t1_loop : Scf.Loop 32 :=
  let c0_i32_56 : BitVec 32 := 0#32
  let c14_i32 : BitVec 32 := 14#32
  let v215 : BitVec 32 := Scalar.addi c0_i32_56 c14_i32
  let c1_i32 : BitVec 32 := 1#32
  ⟨c0_i32_56, v215, c1_i32⟩
def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .smem S1x1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S80x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256x10000 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S80x10000 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]
-- ==== ReferenceIdeal.lean ====
abbrev S10000 : Shape := ⟨1, ![10000]⟩
abbrev S10000x128 : Shape := ⟨2, ![10000, 128]⟩
abbrev S128x128 : Shape := ⟨2, ![128, 128]⟩
abbrev S128 : Shape := ⟨1, ![128]⟩
abbrev S_ : Shape := ⟨0, ![]⟩
abbrev S10000x1 : Shape := ⟨2, ![10000, 1]⟩
abbrev S1 : Shape := ⟨1, ![1]⟩
abbrev S1x1 : Shape := ⟨2, ![1, 1]⟩
abbrev S1x128 : Shape := ⟨2, ![1, 128]⟩
abbrev S128x10000 : Shape := ⟨2, ![128, 10000]⟩
abbrev S10000x10000 : Shape := ⟨2, ![10000, 10000]⟩
abbrev S10000x64 : Shape := ⟨2, ![10000, 64]⟩

abbrev nBuf : Space → Nat
  | .hbm => 376
  | .vmem => 0
  | .smem => 0
  | _ => 0

abbrev hbmTy0_0 (i : Nat) : BufTy := match i % 128 with
  | 0 => ⟨S10000, .i32⟩
  | 1 => ⟨S10000x128, .f32⟩
  | 2 => ⟨S10000x128, .f32⟩
  | 3 => ⟨S128x128, .f32⟩
  | 4 => ⟨S128, .f32⟩
  | 5 => ⟨S128x128, .f32⟩
  | 6 => ⟨S128, .f32⟩
  | 7 => ⟨S_, .f32⟩
  | 8 => ⟨S_, .i32⟩
  | 9 => ⟨S10000, .i32⟩
  | 10 => ⟨S10000, .i1⟩
  | 11 => ⟨S_, .i32⟩
  | 12 => ⟨S10000, .i32⟩
  | 13 => ⟨S10000, .i32⟩
  | 14 => ⟨S10000, .i32⟩
  | 15 => ⟨S10000x1, .i32⟩
  | 16 => ⟨S1, .i32⟩
  | 17 => ⟨S_, .i32⟩
  | 18 => ⟨S10000x1, .i32⟩
  | 19 => ⟨S10000x1, .i1⟩
  | 20 => ⟨S1x1, .i32⟩
  | 21 => ⟨S10000x1, .i32⟩
  | 22 => ⟨S10000x1, .i1⟩
  | 23 => ⟨S10000x1, .i1⟩
  | 24 => ⟨S_, .i1⟩
  | 25 => ⟨S10000, .i1⟩
  | 26 => ⟨S10000x128, .f32⟩
  | 27 => ⟨S10000x128, .i1⟩
  | 28 => ⟨S_, .f32⟩
  | 29 => ⟨S10000x128, .f32⟩
  | 30 => ⟨S10000x128, .f32⟩
  | 31 => ⟨S_, .i32⟩
  | 32 => ⟨S10000, .i32⟩
  | 33 => ⟨S10000, .i1⟩
  | 34 => ⟨S_, .i32⟩
  | 35 => ⟨S10000, .i32⟩
  | 36 => ⟨S10000, .i32⟩
  | 37 => ⟨S10000, .i32⟩
  | 38 => ⟨S10000x1, .i32⟩
  | 39 => ⟨S1, .i32⟩
  | 40 => ⟨S_, .i32⟩
  | 41 => ⟨S10000x1, .i32⟩
  | 42 => ⟨S10000x1, .i1⟩
  | 43 => ⟨S1x1, .i32⟩
  | 44 => ⟨S10000x1, .i32⟩
  | 45 => ⟨S10000x1, .i1⟩
  | 46 => ⟨S10000x1, .i1⟩
  | 47 => ⟨S_, .i1⟩
  | 48 => ⟨S10000, .i1⟩
  | 49 => ⟨S10000x128, .f32⟩
  | 50 => ⟨S10000x128, .i1⟩
  | 51 => ⟨S_, .f32⟩
  | 52 => ⟨S10000x128, .f32⟩
  | 53 => ⟨S10000x128, .f32⟩
  | 54 => ⟨S128x128, .f32⟩
  | 55 => ⟨S10000x128, .f32⟩
  | 56 => ⟨S1x128, .f32⟩
  | 57 => ⟨S10000x128, .f32⟩
  | 58 => ⟨S10000x128, .f32⟩
  | 59 => ⟨S_, .f32⟩
  | 60 => ⟨S10000x128, .f32⟩
  | 61 => ⟨S10000x128, .f32⟩
  | 62 => ⟨S10000x128, .f32⟩
  | 63 => ⟨S128x128, .f32⟩
  | 64 => ⟨S10000x128, .f32⟩
  | 65 => ⟨S1x128, .f32⟩
  | 66 => ⟨S10000x128, .f32⟩
  | 67 => ⟨S10000x128, .f32⟩
  | 68 => ⟨S_, .f32⟩
  | 69 => ⟨S10000x128, .f32⟩
  | 70 => ⟨S10000x128, .f32⟩
  | 71 => ⟨S10000x128, .f32⟩
  | 72 => ⟨S128x10000, .f32⟩
  | 73 => ⟨S10000x10000, .f32⟩
  | 74 => ⟨S10000x10000, .f32⟩
  | 75 => ⟨S10000x10000, .f32⟩
  | 76 => ⟨S_, .f32⟩
  | 77 => ⟨S10000x10000, .f32⟩
  | 78 => ⟨S10000x10000, .f32⟩
  | 79 => ⟨S_, .f32⟩
  | 80 => ⟨S10000x10000, .f32⟩
  | 81 => ⟨S10000x10000, .f32⟩
  | 82 => ⟨S10000x10000, .f32⟩
  | 83 => ⟨S10000x10000, .f32⟩
  | 84 => ⟨S10000x10000, .i1⟩
  | 85 => ⟨S10000x10000, .f32⟩
  | 86 => ⟨S10000x10000, .f32⟩
  | 87 => ⟨S10000x10000, .f32⟩
  | 88 => ⟨S10000x10000, .f32⟩
  | 89 => ⟨S10000x10000, .f32⟩
  | 90 => ⟨S10000x10000, .f32⟩
  | 91 => ⟨S10000x10000, .f32⟩
  | 92 => ⟨S10000x10000, .f32⟩
  | 93 => ⟨S_, .f32⟩
  | 94 => ⟨S10000x10000, .f32⟩
  | 95 => ⟨S10000x10000, .f32⟩
  | 96 => ⟨S10000x10000, .i32⟩
  | 97 => ⟨S_, .i32⟩
  | 98 => ⟨S10000x10000, .i32⟩
  | 99 => ⟨S10000x10000, .i32⟩
  | 100 => ⟨S10000x10000, .i32⟩
  | 101 => ⟨S10000x10000, .i32⟩
  | 102 => ⟨S_, .i32⟩
  | 103 => ⟨S10000x10000, .i32⟩
  | 104 => ⟨S_, .i32⟩
  | 105 => ⟨S10000x10000, .i32⟩
  | 106 => ⟨S10000x10000, .i32⟩
  | 107 => ⟨S10000x10000, .i32⟩
  | 108 => ⟨S_, .i32⟩
  | 109 => ⟨S10000x10000, .i32⟩
  | 110 => ⟨S10000x10000, .i32⟩
  | 111 => ⟨S_, .i32⟩
  | 112 => ⟨S10000x10000, .i32⟩
  | 113 => ⟨S10000x10000, .i32⟩
  | 114 => ⟨S10000x10000, .i32⟩
  | 115 => ⟨S10000x10000, .i32⟩
  | 116 => ⟨S10000x10000, .i32⟩
  | 117 => ⟨S_, .i32⟩
  | 118 => ⟨S10000x10000, .i32⟩
  | 119 => ⟨S10000x10000, .i32⟩
  | 120 => ⟨S_, .i32⟩
  | 121 => ⟨S10000x10000, .i32⟩
  | 122 => ⟨S10000x10000, .i32⟩
  | 123 => ⟨S10000x10000, .i32⟩
  | 124 => ⟨S10000x10000, .i32⟩
  | 125 => ⟨S10000x10000, .i32⟩
  | 126 => ⟨S_, .i32⟩
  | 127 => ⟨S10000x10000, .i32⟩
  | _ => ⟨S10000, .i32⟩

abbrev hbmTy0_1 (i : Nat) : BufTy := match i % 128 with
  | 0 => ⟨S10000x10000, .i32⟩
  | 1 => ⟨S_, .i32⟩
  | 2 => ⟨S10000x10000, .i32⟩
  | 3 => ⟨S10000x10000, .i32⟩
  | 4 => ⟨S10000x10000, .i32⟩
  | 5 => ⟨S10000x10000, .i32⟩
  | 6 => ⟨S10000x10000, .i32⟩
  | 7 => ⟨S_, .i32⟩
  | 8 => ⟨S10000x10000, .i32⟩
  | 9 => ⟨S10000x10000, .i32⟩
  | 10 => ⟨S_, .i32⟩
  | 11 => ⟨S10000x10000, .i32⟩
  | 12 => ⟨S10000x10000, .i32⟩
  | 13 => ⟨S10000x10000, .i32⟩
  | 14 => ⟨S10000x10000, .i32⟩
  | 15 => ⟨S_, .i32⟩
  | 16 => ⟨S10000x10000, .i32⟩
  | 17 => ⟨S10000x10000, .i32⟩
  | 18 => ⟨S_, .i32⟩
  | 19 => ⟨S10000x10000, .i32⟩
  | 20 => ⟨S10000x10000, .i32⟩
  | 21 => ⟨S10000x10000, .i32⟩
  | 22 => ⟨S_, .i32⟩
  | 23 => ⟨S10000x10000, .i32⟩
  | 24 => ⟨S10000x10000, .i32⟩
  | 25 => ⟨S_, .i32⟩
  | 26 => ⟨S10000x10000, .i32⟩
  | 27 => ⟨S10000x10000, .i32⟩
  | 28 => ⟨S10000x10000, .i32⟩
  | 29 => ⟨S10000x10000, .i32⟩
  | 30 => ⟨S10000x10000, .i32⟩
  | 31 => ⟨S_, .i32⟩
  | 32 => ⟨S10000x10000, .i32⟩
  | 33 => ⟨S10000x10000, .i32⟩
  | 34 => ⟨S_, .i32⟩
  | 35 => ⟨S10000x10000, .i32⟩
  | 36 => ⟨S10000x10000, .i32⟩
  | 37 => ⟨S10000x10000, .i32⟩
  | 38 => ⟨S10000x10000, .i32⟩
  | 39 => ⟨S10000x10000, .i32⟩
  | 40 => ⟨S_, .i32⟩
  | 41 => ⟨S10000x10000, .i32⟩
  | 42 => ⟨S10000x10000, .i32⟩
  | 43 => ⟨S_, .i32⟩
  | 44 => ⟨S10000x10000, .i32⟩
  | 45 => ⟨S10000x10000, .i32⟩
  | 46 => ⟨S10000x10000, .i32⟩
  | 47 => ⟨S10000x10000, .i32⟩
  | 48 => ⟨S10000x10000, .i32⟩
  | 49 => ⟨S_, .i32⟩
  | 50 => ⟨S10000x10000, .i32⟩
  | 51 => ⟨S10000x10000, .i32⟩
  | 52 => ⟨S_, .i32⟩
  | 53 => ⟨S10000x10000, .i32⟩
  | 54 => ⟨S10000x10000, .i32⟩
  | 55 => ⟨S10000x10000, .i32⟩
  | 56 => ⟨S10000x10000, .i32⟩
  | 57 => ⟨S_, .i32⟩
  | 58 => ⟨S10000x10000, .i32⟩
  | 59 => ⟨S10000x10000, .i32⟩
  | 60 => ⟨S_, .i32⟩
  | 61 => ⟨S10000x10000, .i32⟩
  | 62 => ⟨S10000x10000, .i32⟩
  | 63 => ⟨S10000x10000, .i32⟩
  | 64 => ⟨S_, .i32⟩
  | 65 => ⟨S10000x10000, .i32⟩
  | 66 => ⟨S10000x10000, .i32⟩
  | 67 => ⟨S_, .i32⟩
  | 68 => ⟨S10000x10000, .i32⟩
  | 69 => ⟨S10000x10000, .i32⟩
  | 70 => ⟨S10000x10000, .i32⟩
  | 71 => ⟨S10000x10000, .i32⟩
  | 72 => ⟨S10000x10000, .i32⟩
  | 73 => ⟨S_, .i32⟩
  | 74 => ⟨S10000x10000, .i32⟩
  | 75 => ⟨S10000x10000, .i32⟩
  | 76 => ⟨S_, .i32⟩
  | 77 => ⟨S10000x10000, .i32⟩
  | 78 => ⟨S10000x10000, .i32⟩
  | 79 => ⟨S10000x10000, .i32⟩
  | 80 => ⟨S10000x10000, .i32⟩
  | 81 => ⟨S10000x10000, .i32⟩
  | 82 => ⟨S_, .i32⟩
  | 83 => ⟨S10000x10000, .i32⟩
  | 84 => ⟨S10000x10000, .i32⟩
  | 85 => ⟨S_, .i32⟩
  | 86 => ⟨S10000x10000, .i32⟩
  | 87 => ⟨S10000x10000, .i32⟩
  | 88 => ⟨S10000x10000, .i32⟩
  | 89 => ⟨S10000x10000, .i32⟩
  | 90 => ⟨S10000x10000, .i32⟩
  | 91 => ⟨S_, .i32⟩
  | 92 => ⟨S10000x10000, .i32⟩
  | 93 => ⟨S10000x10000, .i32⟩
  | 94 => ⟨S_, .i32⟩
  | 95 => ⟨S10000x10000, .i32⟩
  | 96 => ⟨S10000x10000, .i32⟩
  | 97 => ⟨S10000x10000, .i32⟩
  | 98 => ⟨S10000x10000, .i32⟩
  | 99 => ⟨S_, .i32⟩
  | 100 => ⟨S10000x10000, .i32⟩
  | 101 => ⟨S10000x10000, .i32⟩
  | 102 => ⟨S_, .i32⟩
  | 103 => ⟨S10000x10000, .i32⟩
  | 104 => ⟨S10000x10000, .i32⟩
  | 105 => ⟨S10000x10000, .i32⟩
  | 106 => ⟨S_, .i32⟩
  | 107 => ⟨S10000x10000, .i32⟩
  | 108 => ⟨S10000x10000, .i32⟩
  | 109 => ⟨S_, .i32⟩
  | 110 => ⟨S10000x10000, .i32⟩
  | 111 => ⟨S10000x10000, .i32⟩
  | 112 => ⟨S10000x10000, .i32⟩
  | 113 => ⟨S10000x10000, .i32⟩
  | 114 => ⟨S10000x10000, .i32⟩
  | 115 => ⟨S_, .i32⟩
  | 116 => ⟨S10000x10000, .i32⟩
  | 117 => ⟨S10000x10000, .i32⟩
  | 118 => ⟨S_, .i32⟩
  | 119 => ⟨S10000x10000, .i32⟩
  | 120 => ⟨S10000x10000, .i32⟩
  | 121 => ⟨S10000x10000, .i32⟩
  | 122 => ⟨S10000x10000, .i32⟩
  | 123 => ⟨S10000x10000, .i32⟩
  | 124 => ⟨S_, .i32⟩
  | 125 => ⟨S10000x10000, .i32⟩
  | 126 => ⟨S10000x10000, .i32⟩
  | 127 => ⟨S_, .i32⟩
  | _ => ⟨S10000, .i32⟩

abbrev hbmTy0_2 (i : Nat) : BufTy := match i % 128 with
  | 0 => ⟨S10000x10000, .i32⟩
  | 1 => ⟨S10000x10000, .i32⟩
  | 2 => ⟨S10000x10000, .i32⟩
  | 3 => ⟨S10000x10000, .i32⟩
  | 4 => ⟨S10000x10000, .i32⟩
  | 5 => ⟨S_, .i32⟩
  | 6 => ⟨S10000x10000, .i32⟩
  | 7 => ⟨S10000x10000, .i32⟩
  | 8 => ⟨S_, .i32⟩
  | 9 => ⟨S10000x10000, .i32⟩
  | 10 => ⟨S10000x10000, .i32⟩
  | 11 => ⟨S10000x10000, .i32⟩
  | 12 => ⟨S10000x10000, .i32⟩
  | 13 => ⟨S_, .i32⟩
  | 14 => ⟨S10000x10000, .i32⟩
  | 15 => ⟨S10000x10000, .i32⟩
  | 16 => ⟨S_, .i32⟩
  | 17 => ⟨S10000x10000, .i32⟩
  | 18 => ⟨S10000x10000, .i32⟩
  | 19 => ⟨S10000x10000, .i32⟩
  | 20 => ⟨S_, .i32⟩
  | 21 => ⟨S10000x10000, .i32⟩
  | 22 => ⟨S10000x10000, .i32⟩
  | 23 => ⟨S_, .i32⟩
  | 24 => ⟨S10000x10000, .i32⟩
  | 25 => ⟨S10000x10000, .i32⟩
  | 26 => ⟨S10000x10000, .i32⟩
  | 27 => ⟨S10000x10000, .i32⟩
  | 28 => ⟨S10000x10000, .i32⟩
  | 29 => ⟨S_, .i32⟩
  | 30 => ⟨S10000x10000, .i32⟩
  | 31 => ⟨S10000x10000, .i32⟩
  | 32 => ⟨S_, .i32⟩
  | 33 => ⟨S10000x10000, .i32⟩
  | 34 => ⟨S10000x10000, .i32⟩
  | 35 => ⟨S10000x10000, .i32⟩
  | 36 => ⟨S10000x10000, .i32⟩
  | 37 => ⟨S10000x10000, .i32⟩
  | 38 => ⟨S_, .i32⟩
  | 39 => ⟨S10000x10000, .i32⟩
  | 40 => ⟨S10000x10000, .i32⟩
  | 41 => ⟨S_, .i32⟩
  | 42 => ⟨S10000x10000, .i32⟩
  | 43 => ⟨S10000x10000, .i32⟩
  | 44 => ⟨S10000x10000, .i32⟩
  | 45 => ⟨S10000x10000, .i32⟩
  | 46 => ⟨S10000x10000, .i32⟩
  | 47 => ⟨S_, .i32⟩
  | 48 => ⟨S10000x10000, .i32⟩
  | 49 => ⟨S10000x10000, .i32⟩
  | 50 => ⟨S_, .i32⟩
  | 51 => ⟨S10000x10000, .i32⟩
  | 52 => ⟨S10000x10000, .i32⟩
  | 53 => ⟨S10000x10000, .i32⟩
  | 54 => ⟨S10000x10000, .i32⟩
  | 55 => ⟨S_, .i32⟩
  | 56 => ⟨S10000x10000, .i32⟩
  | 57 => ⟨S10000x10000, .i32⟩
  | 58 => ⟨S_, .i32⟩
  | 59 => ⟨S10000x10000, .i32⟩
  | 60 => ⟨S10000x10000, .i32⟩
  | 61 => ⟨S10000x10000, .i32⟩
  | 62 => ⟨S_, .i32⟩
  | 63 => ⟨S10000x10000, .i32⟩
  | 64 => ⟨S10000x10000, .i32⟩
  | 65 => ⟨S10000x10000, .f32⟩
  | 66 => ⟨S_, .f32⟩
  | 67 => ⟨S10000x10000, .f32⟩
  | 68 => ⟨S10000x10000, .f32⟩
  | 69 => ⟨S_, .f32⟩
  | 70 => ⟨S10000x10000, .f32⟩
  | 71 => ⟨S10000x10000, .f32⟩
  | 72 => ⟨S10000x10000, .f32⟩
  | 73 => ⟨S10000x10000, .f32⟩
  | 74 => ⟨S_, .f32⟩
  | 75 => ⟨S10000x10000, .f32⟩
  | 76 => ⟨S10000x10000, .f32⟩
  | 77 => ⟨S10000x10000, .f32⟩
  | 78 => ⟨S10000x10000, .f32⟩
  | 79 => ⟨S10000x10000, .f32⟩
  | 80 => ⟨S10000x10000, .f32⟩
  | 81 => ⟨S10000x10000, .f32⟩
  | 82 => ⟨S10000x64, .f32⟩
  | 83 => ⟨S10000x64, .i32⟩
  | 84 => ⟨S_, .f32⟩
  | 85 => ⟨S_, .f32⟩
  | 86 => ⟨S10000x1, .f32⟩
  | 87 => ⟨S10000x1, .f32⟩
  | 88 => ⟨S10000x1, .f32⟩
  | 89 => ⟨S_, .f32⟩
  | 90 => ⟨S10000x1, .f32⟩
  | 91 => ⟨S10000x1, .f32⟩
  | 92 => ⟨S10000x1, .f32⟩
  | 93 => ⟨S10000x1, .f32⟩
  | 94 => ⟨S10000x1, .f32⟩
  | 95 => ⟨S10000x1, .f32⟩
  | 96 => ⟨S10000x1, .f32⟩
  | 97 => ⟨S_, .f32⟩
  | 98 => ⟨S10000x1, .f32⟩
  | 99 => ⟨S10000x1, .f32⟩
  | 100 => ⟨S10000x1, .f32⟩
  | 101 => ⟨S10000x1, .f32⟩
  | 102 => ⟨S10000x1, .f32⟩
  | 103 => ⟨S10000x10000, .f32⟩
  | 104 => ⟨S10000x10000, .f32⟩
  | 105 => ⟨S_, .f32⟩
  | 106 => ⟨S10000x10000, .f32⟩
  | 107 => ⟨S10000x10000, .f32⟩
  | 108 => ⟨S10000x10000, .f32⟩
  | 109 => ⟨S10000x10000, .f32⟩
  | 110 => ⟨S_, .f32⟩
  | 111 => ⟨S10000x10000, .f32⟩
  | 112 => ⟨S10000x10000, .f32⟩
  | 113 => ⟨S_, .f32⟩
  | 114 => ⟨S10000x10000, .f32⟩
  | 115 => ⟨S10000x10000, .f32⟩
  | 116 => ⟨S10000x10000, .f32⟩
  | 117 => ⟨S_, .f32⟩
  | 118 => ⟨S10000x10000, .f32⟩
  | 119 => ⟨S10000x10000, .f32⟩
  | _ => ⟨S10000, .i32⟩

abbrev hbmTy (i : Nat) : BufTy := match i / 128 with
  | 0 => hbmTy0_0 i
  | 1 => hbmTy0_1 i
  | 2 => hbmTy0_2 i
  | _ => ⟨S10000, .i32⟩

abbrev bufTy : (tb : Table) → Fin (tcTables nBuf tb) → BufTy
  | .hbm, ⟨i, _⟩ => hbmTy i
  | _, _ => ⟨S10000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_call1_c : Ref sig .tc := ⟨.hbm, 31, rfl⟩
abbrev main_call1_v0 : Ref sig .tc := ⟨.hbm, 32, rfl⟩
abbrev main_call1_v1 : Ref sig .tc := ⟨.hbm, 33, rfl⟩
abbrev main_call1_c_0 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_c_1 : Ref sig .tc := ⟨.hbm, 39, rfl⟩
abbrev main_call1_c_2 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_3 : Ref sig .tc := ⟨.hbm, 47, rfl⟩
abbrev main_call1_v12 : Ref sig .tc := ⟨.hbm, 48, rfl⟩
abbrev main_call1_v13 : Ref sig .tc := ⟨.hbm, 49, rfl⟩
abbrev main_call1_v14 : Ref sig .tc := ⟨.hbm, 50, rfl⟩
abbrev main_call1_cst : Ref sig .tc := ⟨.hbm, 51, rfl⟩
abbrev main_call1_v15 : Ref sig .tc := ⟨.hbm, 52, rfl⟩
abbrev main_v1 : Ref sig .tc := ⟨.hbm, 53, rfl⟩
abbrev main_v2 : Ref sig .tc := ⟨.hbm, 54, rfl⟩
abbrev main_v3 : Ref sig .tc := ⟨.hbm, 55, rfl⟩
abbrev main_v4 : Ref sig .tc := ⟨.hbm, 56, rfl⟩
abbrev main_v5 : Ref sig .tc := ⟨.hbm, 57, rfl⟩
abbrev main_v6 : Ref sig .tc := ⟨.hbm, 58, rfl⟩
abbrev main_cst : Ref sig .tc := ⟨.hbm, 59, rfl⟩
abbrev main_v7 : Ref sig .tc := ⟨.hbm, 60, rfl⟩
abbrev main_v8 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_cst_0 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_cst_1 : Ref sig .tc := ⟨.hbm, 76, rfl⟩
abbrev main_v22 : Ref sig .tc := ⟨.hbm, 77, rfl⟩
abbrev main_v23 : Ref sig .tc := ⟨.hbm, 78, rfl⟩
abbrev main_call2_cst : Ref sig .tc := ⟨.hbm, 79, rfl⟩
abbrev main_call2_v0 : Ref sig .tc := ⟨.hbm, 80, rfl⟩
abbrev main_call2_v1 : Ref sig .tc := ⟨.hbm, 81, rfl⟩
abbrev main_call2_v2 : Ref sig .tc := ⟨.hbm, 82, rfl⟩
abbrev main_call2_v3 : Ref sig .tc := ⟨.hbm, 83, rfl⟩
abbrev main_call2_v4 : Ref sig .tc := ⟨.hbm, 84, rfl⟩
abbrev main_call2_v5 : Ref sig .tc := ⟨.hbm, 85, rfl⟩
abbrev main_call2_v6 : Ref sig .tc := ⟨.hbm, 86, rfl⟩
abbrev main_call2_v7 : Ref sig .tc := ⟨.hbm, 87, rfl⟩
abbrev main_call2_v8 : Ref sig .tc := ⟨.hbm, 88, rfl⟩
abbrev main_call2_v9 : Ref sig .tc := ⟨.hbm, 89, rfl⟩
abbrev main_call2_v10 : Ref sig .tc := ⟨.hbm, 90, rfl⟩
abbrev main_call2_v11 : Ref sig .tc := ⟨.hbm, 91, rfl⟩
abbrev main_v24 : Ref sig .tc := ⟨.hbm, 92, rfl⟩
abbrev main_cst_2 : Ref sig .tc := ⟨.hbm, 93, rfl⟩
abbrev main_v25 : Ref sig .tc := ⟨.hbm, 94, rfl⟩
abbrev main_v26 : Ref sig .tc := ⟨.hbm, 95, rfl⟩
abbrev main_v27 : Ref sig .tc := ⟨.hbm, 96, rfl⟩
abbrev main_c : Ref sig .tc := ⟨.hbm, 97, rfl⟩
abbrev main_v28 : Ref sig .tc := ⟨.hbm, 98, rfl⟩
abbrev main_v29 : Ref sig .tc := ⟨.hbm, 99, rfl⟩
abbrev main_v30 : Ref sig .tc := ⟨.hbm, 100, rfl⟩
abbrev main_v31 : Ref sig .tc := ⟨.hbm, 101, rfl⟩
abbrev main_c_3 : Ref sig .tc := ⟨.hbm, 102, rfl⟩
abbrev main_v32 : Ref sig .tc := ⟨.hbm, 103, rfl⟩
abbrev main_c_4 : Ref sig .tc := ⟨.hbm, 104, rfl⟩
abbrev main_v33 : Ref sig .tc := ⟨.hbm, 105, rfl⟩
abbrev main_v34 : Ref sig .tc := ⟨.hbm, 106, rfl⟩
abbrev main_v35 : Ref sig .tc := ⟨.hbm, 107, rfl⟩
abbrev main_c_5 : Ref sig .tc := ⟨.hbm, 108, rfl⟩
abbrev main_v36 : Ref sig .tc := ⟨.hbm, 109, rfl⟩
abbrev main_v37 : Ref sig .tc := ⟨.hbm, 110, rfl⟩
abbrev main_c_6 : Ref sig .tc := ⟨.hbm, 111, rfl⟩
abbrev main_v38 : Ref sig .tc := ⟨.hbm, 112, rfl⟩
abbrev main_v39 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_c_7 : Ref sig .tc := ⟨.hbm, 117, rfl⟩
abbrev main_v43 : Ref sig .tc := ⟨.hbm, 118, rfl⟩
abbrev main_v44 : Ref sig .tc := ⟨.hbm, 119, rfl⟩
abbrev main_c_8 : Ref sig .tc := ⟨.hbm, 120, rfl⟩
abbrev main_v45 : Ref sig .tc := ⟨.hbm, 121, rfl⟩
abbrev main_v46 : Ref sig .tc := ⟨.hbm, 122, rfl⟩
abbrev main_v47 : Ref sig .tc := ⟨.hbm, 123, rfl⟩
abbrev main_v48 : Ref sig .tc := ⟨.hbm, 124, rfl⟩
abbrev main_v49 : Ref sig .tc := ⟨.hbm, 125, rfl⟩
abbrev main_c_9 : Ref sig .tc := ⟨.hbm, 126, rfl⟩
abbrev main_v50 : Ref sig .tc := ⟨.hbm, 127, rfl⟩
abbrev main_v51 : Ref sig .tc := ⟨.hbm, 128, rfl⟩
abbrev main_c_10 : Ref sig .tc := ⟨.hbm, 129, rfl⟩
abbrev main_v52 : Ref sig .tc := ⟨.hbm, 130, rfl⟩
abbrev main_v53 : Ref sig .tc := ⟨.hbm, 131, rfl⟩
abbrev main_v54 : Ref sig .tc := ⟨.hbm, 132, rfl⟩
abbrev main_v55 : Ref sig .tc := ⟨.hbm, 133, rfl⟩
abbrev main_v56 : Ref sig .tc := ⟨.hbm, 134, rfl⟩
abbrev main_c_11 : Ref sig .tc := ⟨.hbm, 135, rfl⟩
abbrev main_v57 : Ref sig .tc := ⟨.hbm, 136, rfl⟩
abbrev main_v58 : Ref sig .tc := ⟨.hbm, 137, rfl⟩
abbrev main_c_12 : Ref sig .tc := ⟨.hbm, 138, rfl⟩
abbrev main_v59 : Ref sig .tc := ⟨.hbm, 139, rfl⟩
abbrev main_v60 : Ref sig .tc := ⟨.hbm, 140, rfl⟩
abbrev main_v61 : Ref sig .tc := ⟨.hbm, 141, rfl⟩
abbrev main_v62 : Ref sig .tc := ⟨.hbm, 142, rfl⟩
abbrev main_c_13 : Ref sig .tc := ⟨.hbm, 143, rfl⟩
abbrev main_v63 : Ref sig .tc := ⟨.hbm, 144, rfl⟩
abbrev main_v64 : Ref sig .tc := ⟨.hbm, 145, rfl⟩
abbrev main_c_14 : Ref sig .tc := ⟨.hbm, 146, rfl⟩
abbrev main_v65 : Ref sig .tc := ⟨.hbm, 147, rfl⟩
abbrev main_v66 : Ref sig .tc := ⟨.hbm, 148, rfl⟩
abbrev main_v67 : Ref sig .tc := ⟨.hbm, 149, rfl⟩
abbrev main_c_15 : Ref sig .tc := ⟨.hbm, 150, rfl⟩
abbrev main_v68 : Ref sig .tc := ⟨.hbm, 151, rfl⟩
abbrev main_v69 : Ref sig .tc := ⟨.hbm, 152, rfl⟩
abbrev main_c_16 : Ref sig .tc := ⟨.hbm, 153, rfl⟩
abbrev main_v70 : Ref sig .tc := ⟨.hbm, 154, rfl⟩
abbrev main_v71 : Ref sig .tc := ⟨.hbm, 155, rfl⟩
abbrev main_v72 : Ref sig .tc := ⟨.hbm, 156, rfl⟩
abbrev main_v73 : Ref sig .tc := ⟨.hbm, 157, rfl⟩
abbrev main_v74 : Ref sig .tc := ⟨.hbm, 158, rfl⟩
abbrev main_c_17 : Ref sig .tc := ⟨.hbm, 159, rfl⟩
abbrev main_v75 : Ref sig .tc := ⟨.hbm, 160, rfl⟩
abbrev main_v76 : Ref sig .tc := ⟨.hbm, 161, rfl⟩
abbrev main_c_18 : Ref sig .tc := ⟨.hbm, 162, rfl⟩
abbrev main_v77 : Ref sig .tc := ⟨.hbm, 163, rfl⟩
abbrev main_v78 : Ref sig .tc := ⟨.hbm, 164, rfl⟩
abbrev main_v79 : Ref sig .tc := ⟨.hbm, 165, rfl⟩
abbrev main_v80 : Ref sig .tc := ⟨.hbm, 166, rfl⟩
abbrev main_v81 : Ref sig .tc := ⟨.hbm, 167, rfl⟩
abbrev main_c_19 : Ref sig .tc := ⟨.hbm, 168, rfl⟩
abbrev main_v82 : Ref sig .tc := ⟨.hbm, 169, rfl⟩
abbrev main_v83 : Ref sig .tc := ⟨.hbm, 170, rfl⟩
abbrev main_c_20 : Ref sig .tc := ⟨.hbm, 171, rfl⟩
abbrev main_v84 : Ref sig .tc := ⟨.hbm, 172, rfl⟩
abbrev main_v85 : Ref sig .tc := ⟨.hbm, 173, rfl⟩
abbrev main_v86 : Ref sig .tc := ⟨.hbm, 174, rfl⟩
abbrev main_v87 : Ref sig .tc := ⟨.hbm, 175, rfl⟩
abbrev main_v88 : Ref sig .tc := ⟨.hbm, 176, rfl⟩
abbrev main_c_21 : Ref sig .tc := ⟨.hbm, 177, rfl⟩
abbrev main_v89 : Ref sig .tc := ⟨.hbm, 178, rfl⟩
abbrev main_v90 : Ref sig .tc := ⟨.hbm, 179, rfl⟩
abbrev main_c_22 : Ref sig .tc := ⟨.hbm, 180, rfl⟩
abbrev main_v91 : Ref sig .tc := ⟨.hbm, 181, rfl⟩
abbrev main_v92 : Ref sig .tc := ⟨.hbm, 182, rfl⟩
abbrev main_v93 : Ref sig .tc := ⟨.hbm, 183, rfl⟩
abbrev main_v94 : Ref sig .tc := ⟨.hbm, 184, rfl⟩
abbrev main_c_23 : Ref sig .tc := ⟨.hbm, 185, rfl⟩
abbrev main_v95 : Ref sig .tc := ⟨.hbm, 186, rfl⟩
abbrev main_v96 : Ref sig .tc := ⟨.hbm, 187, rfl⟩
abbrev main_c_24 : Ref sig .tc := ⟨.hbm, 188, rfl⟩
abbrev main_v97 : Ref sig .tc := ⟨.hbm, 189, rfl⟩
abbrev main_v98 : Ref sig .tc := ⟨.hbm, 190, rfl⟩
abbrev main_v99 : Ref sig .tc := ⟨.hbm, 191, rfl⟩
abbrev main_c_25 : Ref sig .tc := ⟨.hbm, 192, rfl⟩
abbrev main_v100 : Ref sig .tc := ⟨.hbm, 193, rfl⟩
abbrev main_v101 : Ref sig .tc := ⟨.hbm, 194, rfl⟩
abbrev main_c_26 : Ref sig .tc := ⟨.hbm, 195, rfl⟩
abbrev main_v102 : Ref sig .tc := ⟨.hbm, 196, rfl⟩
abbrev main_v103 : Ref sig .tc := ⟨.hbm, 197, rfl⟩
abbrev main_v104 : Ref sig .tc := ⟨.hbm, 198, rfl⟩
abbrev main_v105 : Ref sig .tc := ⟨.hbm, 199, rfl⟩
abbrev main_v106 : Ref sig .tc := ⟨.hbm, 200, rfl⟩
abbrev main_c_27 : Ref sig .tc := ⟨.hbm, 201, rfl⟩
abbrev main_v107 : Ref sig .tc := ⟨.hbm, 202, rfl⟩
abbrev main_v108 : Ref sig .tc := ⟨.hbm, 203, rfl⟩
abbrev main_c_28 : Ref sig .tc := ⟨.hbm, 204, rfl⟩
abbrev main_v109 : Ref sig .tc := ⟨.hbm, 205, rfl⟩
abbrev main_v110 : Ref sig .tc := ⟨.hbm, 206, rfl⟩
abbrev main_v111 : Ref sig .tc := ⟨.hbm, 207, rfl⟩
abbrev main_v112 : Ref sig .tc := ⟨.hbm, 208, rfl⟩
abbrev main_v113 : Ref sig .tc := ⟨.hbm, 209, rfl⟩
abbrev main_c_29 : Ref sig .tc := ⟨.hbm, 210, rfl⟩
abbrev main_v114 : Ref sig .tc := ⟨.hbm, 211, rfl⟩
abbrev main_v115 : Ref sig .tc := ⟨.hbm, 212, rfl⟩
abbrev main_c_30 : Ref sig .tc := ⟨.hbm, 213, rfl⟩
abbrev main_v116 : Ref sig .tc := ⟨.hbm, 214, rfl⟩
abbrev main_v117 : Ref sig .tc := ⟨.hbm, 215, rfl⟩
abbrev main_v118 : Ref sig .tc := ⟨.hbm, 216, rfl⟩
abbrev main_v119 : Ref sig .tc := ⟨.hbm, 217, rfl⟩
abbrev main_v120 : Ref sig .tc := ⟨.hbm, 218, rfl⟩
abbrev main_c_31 : Ref sig .tc := ⟨.hbm, 219, rfl⟩
abbrev main_v121 : Ref sig .tc := ⟨.hbm, 220, rfl⟩
abbrev main_v122 : Ref sig .tc := ⟨.hbm, 221, rfl⟩
abbrev main_c_32 : Ref sig .tc := ⟨.hbm, 222, rfl⟩
abbrev main_v123 : Ref sig .tc := ⟨.hbm, 223, rfl⟩
abbrev main_v124 : Ref sig .tc := ⟨.hbm, 224, rfl⟩
abbrev main_v125 : Ref sig .tc := ⟨.hbm, 225, rfl⟩
abbrev main_v126 : Ref sig .tc := ⟨.hbm, 226, rfl⟩
abbrev main_c_33 : Ref sig .tc := ⟨.hbm, 227, rfl⟩
abbrev main_v127 : Ref sig .tc := ⟨.hbm, 228, rfl⟩
abbrev main_v128 : Ref sig .tc := ⟨.hbm, 229, rfl⟩
abbrev main_c_34 : Ref sig .tc := ⟨.hbm, 230, rfl⟩
abbrev main_v129 : Ref sig .tc := ⟨.hbm, 231, rfl⟩
abbrev main_v130 : Ref sig .tc := ⟨.hbm, 232, rfl⟩
abbrev main_v131 : Ref sig .tc := ⟨.hbm, 233, rfl⟩
abbrev main_c_35 : Ref sig .tc := ⟨.hbm, 234, rfl⟩
abbrev main_v132 : Ref sig .tc := ⟨.hbm, 235, rfl⟩
abbrev main_v133 : Ref sig .tc := ⟨.hbm, 236, rfl⟩
abbrev main_c_36 : Ref sig .tc := ⟨.hbm, 237, rfl⟩
abbrev main_v134 : Ref sig .tc := ⟨.hbm, 238, rfl⟩
abbrev main_v135 : Ref sig .tc := ⟨.hbm, 239, rfl⟩
abbrev main_v136 : Ref sig .tc := ⟨.hbm, 240, rfl⟩
abbrev main_v137 : Ref sig .tc := ⟨.hbm, 241, rfl⟩
abbrev main_v138 : Ref sig .tc := ⟨.hbm, 242, rfl⟩
abbrev main_c_37 : Ref sig .tc := ⟨.hbm, 243, rfl⟩
abbrev main_v139 : Ref sig .tc := ⟨.hbm, 244, rfl⟩
abbrev main_v140 : Ref sig .tc := ⟨.hbm, 245, rfl⟩
abbrev main_c_38 : Ref sig .tc := ⟨.hbm, 246, rfl⟩
abbrev main_v141 : Ref sig .tc := ⟨.hbm, 247, rfl⟩
abbrev main_v142 : Ref sig .tc := ⟨.hbm, 248, rfl⟩
abbrev main_v143 : Ref sig .tc := ⟨.hbm, 249, rfl⟩
abbrev main_v144 : Ref sig .tc := ⟨.hbm, 250, rfl⟩
abbrev main_v145 : Ref sig .tc := ⟨.hbm, 251, rfl⟩
abbrev main_c_39 : Ref sig .tc := ⟨.hbm, 252, rfl⟩
abbrev main_v146 : Ref sig .tc := ⟨.hbm, 253, rfl⟩
abbrev main_v147 : Ref sig .tc := ⟨.hbm, 254, rfl⟩
abbrev main_c_40 : Ref sig .tc := ⟨.hbm, 255, rfl⟩
abbrev main_v148 : Ref sig .tc := ⟨.hbm, 256, rfl⟩
abbrev main_v149 : Ref sig .tc := ⟨.hbm, 257, rfl⟩
abbrev main_v150 : Ref sig .tc := ⟨.hbm, 258, rfl⟩
abbrev main_v151 : Ref sig .tc := ⟨.hbm, 259, rfl⟩
abbrev main_v152 : Ref sig .tc := ⟨.hbm, 260, rfl⟩
abbrev main_c_41 : Ref sig .tc := ⟨.hbm, 261, rfl⟩
abbrev main_v153 : Ref sig .tc := ⟨.hbm, 262, rfl⟩
abbrev main_v154 : Ref sig .tc := ⟨.hbm, 263, rfl⟩
abbrev main_c_42 : Ref sig .tc := ⟨.hbm, 264, rfl⟩
abbrev main_v155 : Ref sig .tc := ⟨.hbm, 265, rfl⟩
abbrev main_v156 : Ref sig .tc := ⟨.hbm, 266, rfl⟩
abbrev main_v157 : Ref sig .tc := ⟨.hbm, 267, rfl⟩
abbrev main_v158 : Ref sig .tc := ⟨.hbm, 268, rfl⟩
abbrev main_c_43 : Ref sig .tc := ⟨.hbm, 269, rfl⟩
abbrev main_v159 : Ref sig .tc := ⟨.hbm, 270, rfl⟩
abbrev main_v160 : Ref sig .tc := ⟨.hbm, 271, rfl⟩
abbrev main_c_44 : Ref sig .tc := ⟨.hbm, 272, rfl⟩
abbrev main_v161 : Ref sig .tc := ⟨.hbm, 273, rfl⟩
abbrev main_v162 : Ref sig .tc := ⟨.hbm, 274, rfl⟩
abbrev main_v163 : Ref sig .tc := ⟨.hbm, 275, rfl⟩
abbrev main_c_45 : Ref sig .tc := ⟨.hbm, 276, rfl⟩
abbrev main_v164 : Ref sig .tc := ⟨.hbm, 277, rfl⟩
abbrev main_v165 : Ref sig .tc := ⟨.hbm, 278, rfl⟩
abbrev main_c_46 : Ref sig .tc := ⟨.hbm, 279, rfl⟩
abbrev main_v166 : Ref sig .tc := ⟨.hbm, 280, rfl⟩
abbrev main_v167 : Ref sig .tc := ⟨.hbm, 281, rfl⟩
abbrev main_v168 : Ref sig .tc := ⟨.hbm, 282, rfl⟩
abbrev main_v169 : Ref sig .tc := ⟨.hbm, 283, rfl⟩
abbrev main_v170 : Ref sig .tc := ⟨.hbm, 284, rfl⟩
abbrev main_c_47 : Ref sig .tc := ⟨.hbm, 285, rfl⟩
abbrev main_v171 : Ref sig .tc := ⟨.hbm, 286, rfl⟩
abbrev main_v172 : Ref sig .tc := ⟨.hbm, 287, rfl⟩
abbrev main_c_48 : Ref sig .tc := ⟨.hbm, 288, rfl⟩
abbrev main_v173 : Ref sig .tc := ⟨.hbm, 289, rfl⟩
abbrev main_v174 : Ref sig .tc := ⟨.hbm, 290, rfl⟩
abbrev main_v175 : Ref sig .tc := ⟨.hbm, 291, rfl⟩
abbrev main_v176 : Ref sig .tc := ⟨.hbm, 292, rfl⟩
abbrev main_v177 : Ref sig .tc := ⟨.hbm, 293, rfl⟩
abbrev main_c_49 : Ref sig .tc := ⟨.hbm, 294, rfl⟩
abbrev main_v178 : Ref sig .tc := ⟨.hbm, 295, rfl⟩
abbrev main_v179 : Ref sig .tc := ⟨.hbm, 296, rfl⟩
abbrev main_c_50 : Ref sig .tc := ⟨.hbm, 297, rfl⟩
abbrev main_v180 : Ref sig .tc := ⟨.hbm, 298, rfl⟩
abbrev main_v181 : Ref sig .tc := ⟨.hbm, 299, rfl⟩
abbrev main_v182 : Ref sig .tc := ⟨.hbm, 300, rfl⟩
abbrev main_v183 : Ref sig .tc := ⟨.hbm, 301, rfl⟩
abbrev main_v184 : Ref sig .tc := ⟨.hbm, 302, rfl⟩
abbrev main_c_51 : Ref sig .tc := ⟨.hbm, 303, rfl⟩
abbrev main_v185 : Ref sig .tc := ⟨.hbm, 304, rfl⟩
abbrev main_v186 : Ref sig .tc := ⟨.hbm, 305, rfl⟩
abbrev main_c_52 : Ref sig .tc := ⟨.hbm, 306, rfl⟩
abbrev main_v187 : Ref sig .tc := ⟨.hbm, 307, rfl⟩
abbrev main_v188 : Ref sig .tc := ⟨.hbm, 308, rfl⟩
abbrev main_v189 : Ref sig .tc := ⟨.hbm, 309, rfl⟩
abbrev main_v190 : Ref sig .tc := ⟨.hbm, 310, rfl⟩
abbrev main_c_53 : Ref sig .tc := ⟨.hbm, 311, rfl⟩
abbrev main_v191 : Ref sig .tc := ⟨.hbm, 312, rfl⟩
abbrev main_v192 : Ref sig .tc := ⟨.hbm, 313, rfl⟩
abbrev main_c_54 : Ref sig .tc := ⟨.hbm, 314, rfl⟩
abbrev main_v193 : Ref sig .tc := ⟨.hbm, 315, rfl⟩
abbrev main_v194 : Ref sig .tc := ⟨.hbm, 316, rfl⟩
abbrev main_v195 : Ref sig .tc := ⟨.hbm, 317, rfl⟩
abbrev main_c_55 : Ref sig .tc := ⟨.hbm, 318, rfl⟩
abbrev main_v196 : Ref sig .tc := ⟨.hbm, 319, rfl⟩
abbrev main_v197 : Ref sig .tc := ⟨.hbm, 320, rfl⟩
abbrev main_v198 : Ref sig .tc := ⟨.hbm, 321, rfl⟩
abbrev main_cst_56 : Ref sig .tc := ⟨.hbm, 322, rfl⟩
abbrev main_v199 : Ref sig .tc := ⟨.hbm, 323, rfl⟩
abbrev main_v200 : Ref sig .tc := ⟨.hbm, 324, rfl⟩
abbrev main_cst_57 : Ref sig .tc := ⟨.hbm, 325, rfl⟩
abbrev main_v201 : Ref sig .tc := ⟨.hbm, 326, rfl⟩
abbrev main_v202 : Ref sig .tc := ⟨.hbm, 327, rfl⟩
abbrev main_v203 : Ref sig .tc := ⟨.hbm, 328, rfl⟩
abbrev main_v204 : Ref sig .tc := ⟨.hbm, 329, rfl⟩
abbrev main_cst_58 : Ref sig .tc := ⟨.hbm, 330, rfl⟩
abbrev main_v205 : Ref sig .tc := ⟨.hbm, 331, rfl⟩
abbrev main_v206 : Ref sig .tc := ⟨.hbm, 332, rfl⟩
abbrev main_v207 : Ref sig .tc := ⟨.hbm, 333, rfl⟩
abbrev main_v208 : Ref sig .tc := ⟨.hbm, 334, rfl⟩
abbrev main_v209 : Ref sig .tc := ⟨.hbm, 335, rfl⟩
abbrev main_v210 : Ref sig .tc := ⟨.hbm, 336, rfl⟩
abbrev main_v211 : Ref sig .tc := ⟨.hbm, 337, rfl⟩
abbrev main_values : Ref sig .tc := ⟨.hbm, 338, rfl⟩
abbrev main_indices : Ref sig .tc := ⟨.hbm, 339, rfl⟩
abbrev main_cst_59 : Ref sig .tc := ⟨.hbm, 340, rfl⟩
abbrev main_v212 : Ref sig .tc := ⟨.hbm, 341, rfl⟩
abbrev main_v213 : Ref sig .tc := ⟨.hbm, 342, rfl⟩
abbrev main_v214 : Ref sig .tc := ⟨.hbm, 343, rfl⟩
abbrev main_v215 : Ref sig .tc := ⟨.hbm, 344, rfl⟩
abbrev main_cst_60 : Ref sig .tc := ⟨.hbm, 345, rfl⟩
abbrev main_v216 : Ref sig .tc := ⟨.hbm, 346, rfl⟩
abbrev main_v217 : Ref sig .tc := ⟨.hbm, 347, rfl⟩
abbrev main_v218 : Ref sig .tc := ⟨.hbm, 348, rfl⟩
abbrev main_v219 : Ref sig .tc := ⟨.hbm, 349, rfl⟩
abbrev main_v220 : Ref sig .tc := ⟨.hbm, 350, rfl⟩
abbrev main_v221 : Ref sig .tc := ⟨.hbm, 351, rfl⟩
abbrev main_v222 : Ref sig .tc := ⟨.hbm, 352, rfl⟩
abbrev main_cst_61 : Ref sig .tc := ⟨.hbm, 353, rfl⟩
abbrev main_v223 : Ref sig .tc := ⟨.hbm, 354, rfl⟩
abbrev main_v224 : Ref sig .tc := ⟨.hbm, 355, rfl⟩
abbrev main_v225 : Ref sig .tc := ⟨.hbm, 356, rfl⟩
abbrev main_v226 : Ref sig .tc := ⟨.hbm, 357, rfl⟩
abbrev main_v227 : Ref sig .tc := ⟨.hbm, 358, rfl⟩
abbrev main_v228 : Ref sig .tc := ⟨.hbm, 359, rfl⟩
abbrev main_v229 : Ref sig .tc := ⟨.hbm, 360, rfl⟩
abbrev main_cst_62 : Ref sig .tc := ⟨.hbm, 361, rfl⟩
abbrev main_v230 : Ref sig .tc := ⟨.hbm, 362, rfl⟩
abbrev main_v231 : Ref sig .tc := ⟨.hbm, 363, rfl⟩
abbrev main_v232 : Ref sig .tc := ⟨.hbm, 364, rfl⟩
abbrev main_v233 : Ref sig .tc := ⟨.hbm, 365, rfl⟩
abbrev main_cst_63 : Ref sig .tc := ⟨.hbm, 366, rfl⟩
abbrev main_v234 : Ref sig .tc := ⟨.hbm, 367, rfl⟩
abbrev main_v235 : Ref sig .tc := ⟨.hbm, 368, rfl⟩
abbrev main_cst_64 : Ref sig .tc := ⟨.hbm, 369, rfl⟩
abbrev main_v236 : Ref sig .tc := ⟨.hbm, 370, rfl⟩
abbrev main_v237 : Ref sig .tc := ⟨.hbm, 371, rfl⟩
abbrev main_v238 : Ref sig .tc := ⟨.hbm, 372, rfl⟩
abbrev main_call3_cst : Ref sig .tc := ⟨.hbm, 373, rfl⟩
abbrev main_call3_v0 : Ref sig .tc := ⟨.hbm, 374, rfl⟩
abbrev main_v239 : Ref sig .tc := ⟨.hbm, 375, rfl⟩

abbrev nD : Nat := 1
abbrev τ : Topo := Topo.v7x

variable {F : FTy → Type} [FloatOps F]
-- ==== Proof.KernelIdeal.Embed.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Whole

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0__embed_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S1000x128 := Rect.unit (s := S1000x128) ![0, 0] S1000x128.size inb_S1000x128_S1000x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0
abbrev r0_3 : Rect S1000x256 := Rect.unit (s := S1000x256) ![0, 0] S1000x128.size inb_S1000x256_S1000x128_0_0
abbrev r0_4 : Rect S1000x256 := Rect.unit (s := S1000x256) ![0, 128] S1000x128.size inb_S1000x256_S1000x128_0_128

/-! ## What the body leaves in each output window's buffer -/

/-- Window 6's staging buffer after the body, from the input windows' blocks: its 2 stores as pieces, LAST
    FIRST (Lib/Pipeline/FrameBody.lean `View.canon`; the payloads are the skeleton's). -/
def out0_6 (x0 : Vec F S1000x128 .f32) (x1 : Vec F S1000x128 .f32) (x2 : Vec F S128x128 .f32) (x3 : Vec F S128x128 .f32) (x4 : Vec F S1x128 .f32) (x5 : Vec F S1x128 .f32) : Vec F S1000x256 .f32 :=
  View.canon [⟨r0_4, k0_pay2 (View.ld x1 r0_0) (View.ld x3 r0_1) (View.ld x5 r0_2)⟩,
    ⟨r0_3, k0_pay1 (View.ld x0 r0_0) (View.ld x2 r0_1) (View.ld x4 r0_2)⟩]

/-- Its stores tile the buffer (checked by evaluation), so they cover it. -/
theorem cover0_6 (p0 : Vec F S1000x128 .f32) (p1 : Vec F S1000x128 .f32) (y : S1000x256.Idx) :
    ∃ pc ∈ ([⟨r0_4, p0⟩, ⟨r0_3, p1⟩] : List (View.Piece (Elt F) S1000x256 .f32)), y ∈ pc.1.set :=
  View.cover_of_tiled [⟨r0_4, p0⟩, ⟨r0_3, p1⟩] S1000x128.size (by rfl) y

/-! ## The body's triple -/

set_option maxHeartbeats 1000000 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S1000x128 .f32) (harg1 : arg1.IsWhole) (arg2 : Memref sig .tc .vmem S1000x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S1000x256 .f32) (harg7 : arg7.IsWhole)
    (x0 : Vec F S1000x128 .f32) (x1 : Vec F S1000x128 .f32) (x2 : Vec F S128x128 .f32) (x3 : Vec F S128x128 .f32) (x4 : Vec F S1x128 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out0_6 x0 x1 x2 x3 x4 x5)) -∗ K ⟨⟩))
      ⊢ wp frame (wpE (defs₀ (F := F)) Variants.none c none) E (cc0__embed_kernel i arg1 harg1 arg2 harg2 arg3 harg3 arg4 harg4 arg5 harg5 arg6 harg6 arg7 harg7) K := by
  simp only [cc0__embed_kernel_eq_skeleton]; unfold cc0__embed_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover0_6 _ _)

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-! # REGION 1 of @main: custom_call 1, `cc1__embed_t_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S128x128 := Rect.unit (s := S128x128) ![0, 0] S128x128.size inb_S128x128_S128x128_0_0
abbrev r1_1 : Rect S10000x128 := Rect.unit (s := S10000x128) ![0, 0] S10000x128.size inb_S10000x128_S10000x128_0_0
abbrev r1_2 : Rect S128x1 := Rect.unit (s := S128x1) ![0, 0] S128x1.size inb_S128x1_S128x1_0_0
abbrev r1_3 : Rect S256x10000 := Rect.unit (s := S256x10000) ![128, 0] S128x10000.size inb_S256x10000_S128x10000_128_0
abbrev r1_4 : Rect S256x10000 := Rect.unit (s := S256x10000) ![0, 0] S128x10000.size inb_S256x10000_S128x10000_0_0

/-! ## What the body leaves in each output window's buffer -/

/-- Window 6's staging buffer after the body, from the input windows' blocks: its 2 stores as pieces, LAST
    FIRST (Lib/Pipeline/FrameBody.lean `View.canon`; the payloads are the skeleton's). -/
def out1_6 (x0 : Vec F S10000x128 .f32) (x1 : Vec F S10000x128 .f32) (x2 : Vec F S128x128 .f32) (x3 : Vec F S128x128 .f32) (x4 : Vec F S128x1 .f32) (x5 : Vec F S128x1 .f32) : Vec F S256x10000 .f32 :=
  View.canon [⟨r1_4, k1_pay2 (View.ld x3 r1_0) (View.ld x1 r1_1) (View.ld x5 r1_2)⟩,
    ⟨r1_3, k1_pay1 (View.ld x2 r1_0) (View.ld x0 r1_1) (View.ld x4 r1_2)⟩]

/-- Its stores tile the buffer (checked by evaluation), so they cover it. -/
theorem cover1_6 (p0 : Vec F S128x10000 .f32) (p1 : Vec F S128x10000 .f32) (y : S256x10000.Idx) :
    ∃ pc ∈ ([⟨r1_4, p0⟩, ⟨r1_3, p1⟩] : List (View.Piece (Elt F) S256x10000 .f32)), y ∈ pc.1.set :=
  View.cover_of_tiled [⟨r1_4, p0⟩, ⟨r1_3, p1⟩] S128x10000.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs (Lib/Exec.lean), through every part call. -/
theorem sound_kernel1 (c : Dev nD) (E : Set ℕ) (arg0 : Memref sig .tc .vmem S10000x128 .f32) (harg0 : arg0.IsWhole) (arg1 : Memref sig .tc .vmem S10000x128 .f32) (harg1 : arg1.IsWhole) (arg2 : Memref sig .tc .vmem S128x128 .f32) (harg2 : arg2.IsWhole) (arg3 : Memref sig .tc .vmem S128x128 .f32) (harg3 : arg3.IsWhole) (arg4 : Memref sig .tc .vmem S128x1 .f32) (harg4 : arg4.IsWhole) (arg5 : Memref sig .tc .vmem S128x1 .f32) (harg5 : arg5.IsWhole) (arg6 : Memref sig .tc .vmem S256x10000 .f32) (harg6 : arg6.IsWhole)
    (x0 : Vec F S10000x128 .f32) (x1 : Vec F S10000x128 .f32) (x2 : Vec F S128x128 .f32) (x3 : Vec F S128x128 .f32) (x4 : Vec F S128x1 .f32) (x5 : Vec F S128x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ (∃ d, owns (c : Thread nD τ) arg6 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare (out1_6 x0 x1 x2 x3 x4 x5)) -∗ K ⟨⟩))
      ⊢ wp frame (wpE (defs₀ (F := F)) Variants.none c none) E (cc1__embed_t_kernel arg0 harg0 arg1 harg1 arg2 harg2 arg3 harg3 arg4 harg4 arg5 harg5 arg6 harg6) K := by
  simp only [cc1__embed_t_kernel_eq_skeleton]; unfold cc1__embed_t_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _ _)

/-! ## The pipeline's proof data -/

/-- The proof data of pipeline 1 on core `c`: the arrays as the region finds them (`V`); after the body at
    point `t` each input's buffer at its block and each output's at `out1_W` of the input blocks; the invariant the
    class's (Lib/Pipeline/Frame.lean `ΦA`: the scoped rest and the generator register, untouched); nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Whole

end
-- ==== Proof.KernelIdeal.Adj.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import proofs.«01_k».proof.Proof.Gen.KernelIdeal.Loops
public import Idealize.ShloMosaic.Lib.Pipeline.RegionsLoop
public import Idealize.ShloMosaic.Lib.Pipeline.FrameSuffix
public import Idealize.ShloMosaic.Lib.VecWindow
public import Idealize.ShloMosaic.Lib.Pipeline.ValueKit.Basic
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Whole

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))
/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The kernel body on any staging memrefs: a subtype the run finds -/

/-- One staging buffer of output window 3, through which its contents are stated (`View.read_writes_of_cover`: the
    choice does not matter). -/
abbrev VO2_3 : View sig .tc .vmem S80x10000 .f32 := (Memref.whole cc2_stg3_0 : Memref sig .tc .vmem S80x10000 .f32).view
/-- Each window's current staging memref at point `t`, spelled as the pipeline passes it (`bodyAt2`), and its wholeness. -/
abbrev ms2_0 (t : Fin cfg2.N) : Memref sig .tc .smem S1x1 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S80x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S256x10000 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S80x10000 .f32 := win2_3.stage (cfg2.slots t 3)
abbrev hs2_3 (t : Fin cfg2.N) : (ms2_3 t).IsWhole := hstage2_3 ((cfg2.slots t 3).cast nbuf2_3)
/-- The scratch operands: whole scoped buffers of the kernel's own, passed beside the windows. -/
abbrev scM2_0 : Memref sig .tc .vmem S80x10000 .f32 := Memref.whole cc2_scratch0
abbrev scM2_1 : Memref sig .tc .vmem S80x10000 .i32 := Memref.whole cc2_scratch1

/-- The frame kit's invariant with the scratch operands as memrefs owned at some contents (`Gen.scopedRest2_eq`,
    Lib/Memref.lean `owns_whole`): what the body obligation hands the run and takes back. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ d, owns (c : Thread nD τ) scM2_0 fullShare d) ∗ (∃ d, owns (c : Thread nD τ) scM2_1 fullShare d)) ∗ (∃ r, prngReg c r)) := by
  unfold Pipeline.ΦA; rw [scopedRest2_eq]; simp only [scM2_0, scM2_1, owns_whole]; try rfl

/-! ## The bisection's trip -/

abbrev r2_0 : Rect S80x10000 := Rect.unit (s := S80x10000) ![0, 0] S80x10000.size inb_S80x10000_S80x10000_0_0

theorem trip_eq (𝒱 : Variants) (c : Dev nD) (bd : Option 𝒱.V) (i : grid2.Coords) (arg1 : Memref sig .tc .smem S1x1 .f32) (harg1 : arg1.IsWhole) (arg2 : Memref sig .tc .vmem S80x256 .f32) (harg2 : arg2.IsWhole) (arg3 : Memref sig .tc .vmem S256x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .i32) (harg6 : arg6.IsWhole) (X : BufTy.Contents (Elt F) arg5.view.ty) (k : Fin k2_t1_loop.trips) (acc : FVec F S80x1 .f32 × FVec F S80x1 .f32) :
    tripR_k2_t1 (F := F) 𝒱 c bd i arg1 harg1 arg2 harg2 arg3 harg3 arg4 harg4 arg5 harg5 arg6 harg6 X k acc
      = (k2_pay3 acc.1 acc.2 (View.ld (arg5.view.read (Elt F) X) r2_0), k2_pay4 acc.1 acc.2 (View.ld (arg5.view.read (Elt F) X) r2_0)) := by
  unfold tripR_k2_t1 trip_k2_t1
  rfl

/-- What the bisection holds before trip `k`, both bounds, over the perturbed rows `p`. -/
def bisect (p : Vec F S80x10000 .f32) (init : FVec F S80x1 .f32 × FVec F S80x1 .f32) : ℕ → FVec F S80x1 .f32 × FVec F S80x1 .f32
  | 0 => init
  | k + 1 => (k2_pay3 (bisect p init k).1 (bisect p init k).2 p, k2_pay4 (bisect p init k).1 (bisect p init k).2 p)

/-! ## The body's branch condition -/

/-- The condition of the body's conditional, from the grid coordinate: it stores the element numbers at the first point. -/
abbrev cond2 (i : grid2.Coords) : Prop := (Scalar.cmpi .ne (Scalar.extui (Scalar.cmpi .eq (BitVec.ofNat 32 (i 0).val) 0#32)) 0#32) = 1#1
theorem hcond2 : ∀ t : Fin cfg2.N, cond2 (grid2.coords t) ↔ t.val % 125 = 0 :=
  (fun t => by
    have ht : t.val < 125 := Nat.lt_of_lt_of_eq t.isLt N_2
    have e0 : (grid2.coords t 0).val = t.val / 1 % 125 := Pipeline.Grid.coords_val t 0 (by decide) rfl
    simp only [cond2, e0]
    word_cmp
   : ∀ t : Fin grid2.N, cond2 (grid2.coords t) ↔ t.val % 125 = 0)

/-- The loop's state before trip `k` is the bisection's, over what the perturbed rows' buffer reads. -/
theorem st_eq (𝒱 : Variants) (c : Dev nD) (bd : Option 𝒱.V) (i : grid2.Coords) (arg1 : Memref sig .tc .smem S1x1 .f32) (harg1 : arg1.IsWhole) (arg2 : Memref sig .tc .vmem S80x256 .f32) (harg2 : arg2.IsWhole) (arg3 : Memref sig .tc .vmem S256x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .i32) (harg6 : arg6.IsWhole) (X : BufTy.Contents (Elt F) arg5.view.ty) (init : FVec F S80x1 .f32 × FVec F S80x1 .f32) (k : ℕ) (hk : k ≤ k2_t1_loop.trips) :
    st_k2_t1 (F := F) 𝒱 c bd i arg1 harg1 arg2 harg2 arg3 harg3 arg4 harg4 arg5 harg5 arg6 harg6 X init k = bisect (arg5.view.read (Elt F) X) init k := by
  induction k with
  | zero => rfl
  | succ k ih =>
    have e := st_k2_t1_succ (F := F) 𝒱 c bd i arg1 harg1 arg2 harg2 arg3 harg3 arg4 harg4 arg5 harg5 arg6 harg6 X init ⟨k, hk⟩
    have w : View.ld (arg5.view.read (Elt F) X) r2_0 = arg5.view.read (Elt F) X := View.ld_unit_lit _ _ (by decide)
    rw [e, trip_eq, ih (Nat.le_of_succ_le hk), w]
    rfl

theorem trips14 : k2_t1_loop.trips = 14 := by decide

/-- The perturbed rows of the block at `i`: the softplus of the product of `x1` and `x2`, plus the noise of the element numbers `xs`. -/
def noisy (i : grid2.Coords) (x1 : Vec F S80x256 .f32) (x2 : Vec F S256x10000 .f32) (xs : Vec F S80x10000 .i32) : FVec F S80x10000 .f32 :=
  k2_pay48 (k2_pay7 x1 x2)
    (k2_pay46 (k2_pay34 (k2_pay22 (k2_pay9 i xs) (k2_pay10 i xs)) (k2_pay23 (k2_pay9 i xs) (k2_pay10 i xs))) (k2_pay35 (k2_pay22 (k2_pay9 i xs) (k2_pay10 i xs)) (k2_pay23 (k2_pay9 i xs) (k2_pay10 i xs))) 17#32)
    (k2_pay47 (k2_pay34 (k2_pay22 (k2_pay9 i xs) (k2_pay10 i xs)) (k2_pay23 (k2_pay9 i xs) (k2_pay10 i xs))) (k2_pay35 (k2_pay22 (k2_pay9 i xs) (k2_pay10 i xs)) (k2_pay23 (k2_pay9 i xs) (k2_pay10 i xs))) 17#32)
    26#32

/-- The row maxima of `noisy`, where the bisection's upper bound starts. -/
def noisyTop (i : grid2.Coords) (x1 : Vec F S80x256 .f32) (x2 : Vec F S256x10000 .f32) (xs : Vec F S80x10000 .i32) : FVec F S80x1 .f32 :=
  k2_pay50 (k2_pay7 x1 x2)
    (k2_pay46 (k2_pay34 (k2_pay22 (k2_pay9 i xs) (k2_pay10 i xs)) (k2_pay23 (k2_pay9 i xs) (k2_pay10 i xs))) (k2_pay35 (k2_pay22 (k2_pay9 i xs) (k2_pay10 i xs)) (k2_pay23 (k2_pay9 i xs) (k2_pay10 i xs))) 17#32)
    (k2_pay47 (k2_pay34 (k2_pay22 (k2_pay9 i xs) (k2_pay10 i xs)) (k2_pay23 (k2_pay9 i xs) (k2_pay10 i xs))) (k2_pay35 (k2_pay22 (k2_pay9 i xs) (k2_pay10 i xs)) (k2_pay23 (k2_pay9 i xs) (k2_pay10 i xs))) 17#32)
    26#32

/-- What the body leaves in the output block at `i`. -/
def adjOut (i : grid2.Coords) (x0 : Vec F S1x1 .f32) (x1 : Vec F S80x256 .f32) (x2 : Vec F S256x10000 .f32) (xs : Vec F S80x10000 .i32) : FVec F S80x10000 .f32 :=
  k2_pay5 (bisect (shapeCast S80x10000 (noisy i x1 x2 xs) shapeCasts_S80x10000_S80x10000) (k2_pay51, noisyTop i x1 x2 xs) 14).1 (x0 (Shape.Idx.first (by decide)))
    (shapeCast S80x10000 (noisy i x1 x2 xs) shapeCasts_S80x10000_S80x10000) (k2_pay7 x1 x2)

/-! ## The body's triple -/

set_option maxHeartbeats 1000000 in
/-- The body at the first point, which stores the element numbers. -/
theorem sound_kernel2_A (c : Dev nD) (E : Set ℕ) (i : grid2.Coords) (arg1 : Memref sig .tc .smem S1x1 .f32) (harg1 : arg1.IsWhole) (arg2 : Memref sig .tc .vmem S80x256 .f32) (harg2 : arg2.IsWhole) (arg3 : Memref sig .tc .vmem S256x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .i32) (harg6 : arg6.IsWhole) (hc0 : cond2 i)
    (x0 : Vec F S1x1 .f32) (x1 : Vec F S80x256 .f32) (x2 : Vec F S256x10000 .f32) (K : PUnit → sProp 𝕄) :
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare (adjOut i x0 x1 x2 k2_pay6) ∗ (∃ d, owns (c : Thread nD τ) arg5 fullShare d) ∗ owns (c : Thread nD τ) arg6 fullShare k2_pay6) -∗ K ⟨⟩))
          ⊢ wp frame (wpE (defs₀ (F := F)) Variants.none c none) E (cc2__adj_kernel i arg1 harg1 arg2 harg2 arg3 harg3 arg4 harg4 arg5 harg5 arg6 harg6) K := by
  simp only [cc2__adj_kernel_eq_skeleton]; unfold cc2__adj_kernel_skel
  simp only [k2_part1_eq_skeleton, k2_part2_eq_skeleton, k2_part3_eq_skeleton, k2_part4_eq_skeleton, k2_part5_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
  obtain rfl := harg1.eq_unread hf0; obtain rfl := harg2.eq_unread hf1; obtain rfl := harg3.eq_unread hf2
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    refine (View.read_writes_full _ _ _ _ _).trans ?_
    sl_unfold_run_names
    have e4 : ∀ w, arg4.view.readCov (Val := Elt F) [⟨Rect.unit (s := S80x10000) ![0, 0] S80x10000.size inb_S80x10000_S80x10000_0_0, w⟩] (Rect.unit (s := S80x10000) ![0, 0] ![80, 10000] inb_S80x10000_S80x10000_0_0).toLoadRect = w := fun w => View.readCov_full _ _ _ _ _
    have e5 : ∀ w, arg5.view.readCov (Val := Elt F) [⟨Rect.unit (s := S80x10000) ![0, 0] S80x10000.size inb_S80x10000_S80x10000_0_0, w⟩] (Rect.unit (s := S80x10000) ![0, 0] ![80, 10000] inb_S80x10000_S80x10000_0_0).toLoadRect = w := fun w => View.readCov_full _ _ _ _ _
    have e5' : ∀ w f, arg5.view.read (Elt F) (arg5.view.writes (Elt F) f [⟨Rect.unit (s := S80x10000) ![0, 0] S80x10000.size inb_S80x10000_S80x10000_0_0, w⟩]) = w := fun w f => View.read_writes_full _ _ _ _ _
    have r2 : View.readAt (Elt F) arg2.view (Rect.unit ![0, 0] S80x256.size inb_S80x256_S80x256_0_0).toLoadRect (harg2.unread x1) = x1 := (View.readAt_full _ _ _).trans (harg2.read_unread _)
    have r3 : View.readAt (Elt F) arg3.view (Rect.unit ![0, 0] S256x10000.size inb_S256x10000_S256x10000_0_0).toLoadRect (harg3.unread x2) = x2 := (View.readAt_full _ _ _).trans (harg3.read_unread _)
    have r6 : ∀ w, arg6.view.readCov (Val := Elt F) [⟨Rect.unit (s := S80x10000) ![0, 0] S80x10000.size inb_S80x10000_S80x10000_0_0, w⟩] (Rect.unit (s := S80x10000) ![0, 0] ![80, 10000] inb_S80x10000_S80x10000_0_0).toLoadRect = w := fun w => View.readCov_full _ _ _ _ _
    simp only [e4, e5, r2, r3, r6, st_eq _ _ _ _ _ _ _ _ _ _ _ _ _ _ _ _ _ _ _ (le_refl _), e5']
    have r1 : View.readAt (Elt F) arg1.view (Rect.unit (s := S1x1) ![0, 0] ![1, 1] inb_S1x1_S1x1_0_0).toLoadRect (harg1.unread x0) = x0 := (View.readAt_full _ _ _).trans (harg1.read_unread _)
    rw [r1, trips14]
    unfold adjOut noisy noisyTop
    congr 1
  isplitl [HS0]
  · iexists _; iexists _; isplitr
    swap; · iexact HS0
    ipureintro; rfl
  iexists _; isplitr
  swap; · iexact HS1
  ipureintro
  sl_unfold_run_names; exact View.read_writes_full _ _ _ _ _

set_option maxHeartbeats 1000000 in
/-- The body at a later point, the element numbers carried in. -/
theorem sound_kernel2_B (c : Dev nD) (E : Set ℕ) (i : grid2.Coords) (arg1 : Memref sig .tc .smem S1x1 .f32) (harg1 : arg1.IsWhole) (arg2 : Memref sig .tc .vmem S80x256 .f32) (harg2 : arg2.IsWhole) (arg3 : Memref sig .tc .vmem S256x10000 .f32) (harg3 : arg3.IsWhole) (arg4 : Memref sig .tc .vmem S80x10000 .f32) (harg4 : arg4.IsWhole) (arg5 : Memref sig .tc .vmem S80x10000 .f32) (harg5 : arg5.IsWhole) (arg6 : Memref sig .tc .vmem S80x10000 .i32) (harg6 : arg6.IsWhole) (hc0 : ¬cond2 i)
    (x0 : Vec F S1x1 .f32) (x1 : Vec F S80x256 .f32) (x2 : Vec F S256x10000 .f32) (xs1 : Vec F S80x10000 .i32) (K : PUnit → sProp 𝕄) :
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare xs1
            ∗ (iprop(owns (c : Thread nD τ) arg1 fullShare x0 ∗ owns (c : Thread nD τ) arg2 fullShare x1 ∗ owns (c : Thread nD τ) arg3 fullShare x2 ∗ owns (c : Thread nD τ) arg4 fullShare (adjOut i x0 x1 x2 xs1) ∗ (∃ d, owns (c : Thread nD τ) arg5 fullShare d) ∗ owns (c : Thread nD τ) arg6 fullShare xs1) -∗ K ⟨⟩))
          ⊢ wp frame (wpE (defs₀ (F := F)) Variants.none c none) E (cc2__adj_kernel i arg1 harg1 arg2 harg2 arg3 harg3 arg4 harg4 arg5 harg5 arg6 harg6) K := by
  simp only [cc2__adj_kernel_eq_skeleton]; unfold cc2__adj_kernel_skel
  simp only [k2_part1_eq_skeleton, k2_part2_eq_skeleton, k2_part3_eq_skeleton, k2_part4_eq_skeleton, k2_part5_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%fs1, %hfs1, HS1⟩, Hk⟩
  obtain rfl := harg1.eq_unread hf0; obtain rfl := harg2.eq_unread hf1; obtain rfl := harg3.eq_unread hf2; obtain rfl := harg6.eq_unread hfs1
  sl_exec (disch := first | sl_exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr
    swap; · iexact H3
    ipureintro
    refine (View.read_writes_full _ _ _ _ _).trans ?_
    sl_unfold_run_names
    have e4 : ∀ w, arg4.view.readCov (Val := Elt F) [⟨Rect.unit (s := S80x10000) ![0, 0] S80x10000.size inb_S80x10000_S80x10000_0_0, w⟩] (Rect.unit (s := S80x10000) ![0, 0] ![80, 10000] inb_S80x10000_S80x10000_0_0).toLoadRect = w := fun w => View.readCov_full _ _ _ _ _
    have e5 : ∀ w, arg5.view.readCov (Val := Elt F) [⟨Rect.unit (s := S80x10000) ![0, 0] S80x10000.size inb_S80x10000_S80x10000_0_0, w⟩] (Rect.unit (s := S80x10000) ![0, 0] ![80, 10000] inb_S80x10000_S80x10000_0_0).toLoadRect = w := fun w => View.readCov_full _ _ _ _ _
    have e5' : ∀ w f, arg5.view.read (Elt F) (arg5.view.writes (Elt F) f [⟨Rect.unit (s := S80x10000) ![0, 0] S80x10000.size inb_S80x10000_S80x10000_0_0, w⟩]) = w := fun w f => View.read_writes_full _ _ _ _ _
    have r2 : View.readAt (Elt F) arg2.view (Rect.unit ![0, 0] S80x256.size inb_S80x256_S80x256_0_0).toLoadRect (harg2.unread x1) = x1 := (View.readAt_full _ _ _).trans (harg2.read_unread _)
    have r3 : View.readAt (Elt F) arg3.view (Rect.unit ![0, 0] S256x10000.size inb_S256x10000_S256x10000_0_0).toLoadRect (harg3.unread x2) = x2 := (View.readAt_full _ _ _).trans (harg3.read_unread _)
    have r6 : View.readAt (Elt F) arg6.view (Rect.unit ![0, 0] S80x10000.size inb_S80x10000_S80x10000_0_0).toLoadRect (harg6.unread xs1) = xs1 := (View.readAt_full _ _ _).trans (harg6.read_unread _)
    simp only [e4, e5, r2, r3, r6, st_eq _ _ _ _ _ _ _ _ _ _ _ _ _ _ _ _ _ _ _ (le_refl _), e5']
    have r1 : View.readAt (Elt F) arg1.view (Rect.unit (s := S1x1) ![0, 0] ![1, 1] inb_S1x1_S1x1_0_0).toLoadRect (harg1.unread x0) = x0 := (View.readAt_full _ _ _).trans (harg1.read_unread _)
    rw [r1, trips14]
    unfold adjOut noisy noisyTop
    congr 1
  isplitl [HS0]
  · iexists _; iexists _; isplitr
    swap; · iexact HS0
    ipureintro; rfl
  iexists _; isplitr
  swap; · iexact HS1
  ipureintro
  exact harg6.read_unread _

/-- The invariant before position `n`: the class's before the first point, and after a point the element numbers in the second scratch buffer. -/
def PhiS2 (c : Dev nD) (n : ℕ) : sProp 𝕄 :=
  if n = 0 then Pipeline.ΦA spec2 c else iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ d, owns (c : Thread nD τ) scM2_0 fullShare d) ∗ owns (c : Thread nD τ) scM2_1 fullShare (k2_pay6)) ∗ (∃ r, prngReg c r))

/-- Region 2's proof data: each input's buffer at its block, the output's at `adjOut` of the point. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => adjOut (grid2.coords t) (iblk2 V c 0 t) (iblk2 V c 1 t) (iblk2 V c 2 t) k2_pay6
  Φ t := PhiS2 c t.val
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = adjOut (grid2.coords t) (iblk2 V c 0 t) (iblk2 V c 1 t) (iblk2 V c 2 t) k2_pay6 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t))

theorem PhiS2_pos (c : Dev nD) (n : ℕ) (hz : n ≠ 0) : (PhiS2 c n : sProp 𝕄) = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ d, owns (c : Thread nD τ) scM2_0 fullShare d) ∗ owns (c : Thread nD τ) scM2_1 fullShare (k2_pay6)) ∗ (∃ r, prngReg c r)) := if_neg hz

theorem PhiS2_castSucc (c : Dev nD) (t : Fin cfg2.N) : (dat2 V c).Φ t.castSucc = PhiS2 c t.val := by
  dsimp only [dat2]; rfl

set_option maxHeartbeats 3200000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    after2_0, after2_1, after2_2, after2_3]
  rw [show (dat2 V c).Φ t.succ = PhiS2 c (t.val + 1) from rfl, PhiS2_pos c _ (Nat.succ_ne_zero _)]
  have hN : t.val < 125 := lt_of_lt_of_eq t.isLt (show cfg2.N = 125 from N_2)
  by_cases hz : t.val = 0
  · rw [PhiS2_castSucc V c t, hz, show (PhiS2 c 0 : sProp 𝕄) = Pipeline.ΦA spec2 c from if_pos rfl, PhiA2_eq]
    iintro ⟨⟨⟨G0, G1, G2, G3, G4, G5, G6, G7, G8, G9, G10, G11, G12, G13, G14, G15, G16, HS0, HS1⟩, Hg⟩, Ho, ⟨%d0, H0⟩, ⟨%d1, H1⟩, ⟨%d2, H2⟩, ⟨%d3, H3⟩⟩
    iapply (sound_kernel2_A c Set.univ (grid2.coords t) _ _ _ _ _ _ _ _ _ _ _ _ ((hcond2 t).mpr (by omega)) (iblk2 V c 0 t) (iblk2 V c 1 t) (iblk2 V c 2 t) _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, H3, HS0, HS1⟩
    isplitl [G0 G1 G2 G3 G4 G5 G6 G7 G8 G9 G10 G11 G12 G13 G14 G15 G16 HS0 HS1 Hg]
    · isplitl [G0 G1 G2 G3 G4 G5 G6 G7 G8 G9 G10 G11 G12 G13 G14 G15 G16 HS0 HS1]
      · isplitl [G0]; · iexact G0
        isplitl [G1]; · iexact G1
        isplitl [G2]; · iexact G2
        isplitl [G3]; · iexact G3
        isplitl [G4]; · iexact G4
        isplitl [G5]; · iexact G5
        isplitl [G6]; · iexact G6
        isplitl [G7]; · iexact G7
        isplitl [G8]; · iexact G8
        isplitl [G9]; · iexact G9
        isplitl [G10]; · iexact G10
        isplitl [G11]; · iexact G11
        isplitl [G12]; · iexact G12
        isplitl [G13]; · iexact G13
        isplitl [G14]; · iexact G14
        isplitl [G15]; · iexact G15
        isplitl [G16]; · iexact G16
        isplitl [HS0]; · iexact HS0
        iexact HS1
      iexact Hg
    isplitl [Ho]; · iexact Ho
    isplitl [H0]; · iexact H0
    isplitl [H1]; · iexact H1
    isplitl [H2]; · iexact H2
    iexact H3
  · rw [PhiS2_castSucc V c t, PhiS2_pos c _ hz]
    iintro ⟨⟨⟨G0, G1, G2, G3, G4, G5, G6, G7, G8, G9, G10, G11, G12, G13, G14, G15, G16, HS0, HS1⟩, Hg⟩, Ho, ⟨%d0, H0⟩, ⟨%d1, H1⟩, ⟨%d2, H2⟩, ⟨%d3, H3⟩⟩
    iapply (sound_kernel2_B c Set.univ (grid2.coords t) _ _ _ _ _ _ _ _ _ _ _ _ (fun h => by have := (hcond2 t).mp h; omega) (iblk2 V c 0 t) (iblk2 V c 1 t) (iblk2 V c 2 t) k2_pay6 _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, H3, HS0, HS1⟩
    isplitl [G0 G1 G2 G3 G4 G5 G6 G7 G8 G9 G10 G11 G12 G13 G14 G15 G16 HS0 HS1 Hg]
    · isplitl [G0 G1 G2 G3 G4 G5 G6 G7 G8 G9 G10 G11 G12 G13 G14 G15 G16 HS0 HS1]
      · isplitl [G0]; · iexact G0
        isplitl [G1]; · iexact G1
        isplitl [G2]; · iexact G2
        isplitl [G3]; · iexact G3
        isplitl [G4]; · iexact G4
        isplitl [G5]; · iexact G5
        isplitl [G6]; · iexact G6
        isplitl [G7]; · iexact G7
        isplitl [G8]; · iexact G8
        isplitl [G9]; · iexact G9
        isplitl [G10]; · iexact G10
        isplitl [G11]; · iexact G11
        isplitl [G12]; · iexact G12
        isplitl [G13]; · iexact G13
        isplitl [G14]; · iexact G14
        isplitl [G15]; · iexact G15
        isplitl [G16]; · iexact G16
        isplitl [HS0]; · iexact HS0
        iexact HS1
      iexact Hg
    isplitl [Ho]; · iexact Ho
    isplitl [H0]; · iexact H0
    isplitl [H1]; · iexact H1
    isplitl [H2]; · iexact H2
    iexact H3

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

theorem hin2 (c : Dev nD) : Pipeline.ΦA spec2 c ⊢ (dat2 V c).Φ 0 := by
  rw [show (dat2 V c).Φ 0 = PhiS2 c 0 from rfl, show (PhiS2 c 0 : sProp 𝕄) = Pipeline.ΦA spec2 c from if_pos rfl]
  try exact Idealize.SL.BI.Entails.refl _

theorem hout2 (c : Dev nD) : (dat2 V c).Φ (Fin.last cfg2.N) ⊢ Pipeline.ΦA spec2 c := by
  rw [show (dat2 V c).Φ (Fin.last cfg2.N) = PhiS2 c (Fin.last cfg2.N).val from rfl, PhiS2_pos c _ (by rw [Fin.val_last]; have : cfg2.N = 125 := N_2; omega), PhiA2_eq]
  iintro ⟨⟨G0, G1, G2, G3, G4, G5, G6, G7, G8, G9, G10, G11, G12, G13, G14, G15, G16, HS0, HS1⟩, Hg⟩
  isplitl [G0 G1 G2 G3 G4 G5 G6 G7 G8 G9 G10 G11 G12 G13 G14 G15 G16 HS0 HS1]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [G12]; · iexact G12
    isplitl [G13]; · iexact G13
    isplitl [G14]; · iexact G14
    isplitl [G15]; · iexact G15
    isplitl [G16]; · iexact G16
    isplitl [HS0]; · iexact HS0
    iexists _; iexact HS1
  iexact Hg

end Regions
end Cert.KernelIdeal.Whole
end
-- ==== Proof.KernelIdeal.Run.lean ====
module

public import proofs.«01_k».proof.Proof.KernelIdeal.Embed
public import proofs.«01_k».proof.Proof.KernelIdeal.Adj

@[expose] public section

-- membership in a rectangle of production extents (`View.cover_of_tiled`): the elaborator's structural look
-- recurses once per coordinate of the long axes
set_option maxRecDepth 16384

noncomputable section

namespace Cert.KernelIdeal.Whole

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_call0_call0_c, main_call0_call0_v0, main_call0_call0_v1, main_call0_call0_c_0, main_call0_call0_v2, main_call0_call0_v3, main_call0_call0_v4, main_call0_call0_v5, main_call0_call0_c_1, main_call0_call0_c_2, main_call0_call0_v6, main_call0_call0_v7, main_call0_call0_v8, main_call0_call0_v9, main_call0_call0_v10, main_call0_call0_v11, main_call0_call0_c_3, main_call0_call0_v12, main_call0_call0_v13, main_call0_call0_v14, main_call0_call0_cst, main_call0_call0_v15, main_call0_v0, main_call0_call1_c, main_call0_call1_v0, main_call0_call1_v1, main_call0_call1_c_0, main_call0_call1_v2, main_call0_call1_v3, main_call0_call1_v4, main_call0_call1_v5, main_call0_call1_c_1, main_call0_call1_c_2, main_call0_call1_v6, main_call0_call1_v7, main_call0_call1_v8, main_call0_call1_v9, main_call0_call1_v10, main_call0_call1_v11, main_call0_call1_c_3, main_call0_call1_v12, main_call0_call1_v13, main_call0_call1_v14, main_call0_call1_cst, main_call0_call1_v15, main_call0_v1, main_call0_v2, main_call0_v3]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- The reference each operation of `hostOps1` writes, in order. -/
abbrev hostOps1_W : List (Ref sig .tc) := [main_call0_v5, main_call0_v6]
theorem hostOps1_writes : (hostOps1 : List (HloOp τ sig (Elt F))).Forall fun op => op.writes ⊆ (hostOps1_W.map (Proc.devRef (τ := τ) .tc)).toFinset :=
  StableHlo.forall_writes_sub_of_map rfl
/-- `hostOps1` writes none of the argument arrays (checked: each argument against each reference it writes). -/
theorem hostOps1_args : ∀ a ∈ argRefs, a ∉ hostOps1_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_call0_cst, main_call0_v8, main_call0_v9]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A reference that is none of region 2's OUTPUT arrays keeps its entry contents across it: an input window's
    array is never written back (`Dat.arrAt_in`, `A_eq2`); any other buffer is left as is. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ### The arguments end as launched: no host stretch writes one and no region may change one (a region reads it
    through an input window or bypasses it) -/

theorem W6_main_arg0 (c : Dev nD) : W6 m ρ c (Proc.devRef .tc main_arg0) = m ((c : Thread nD τ).loc main_arg0) :=
  W6_args m ρ c main_arg0 (by decide)
theorem W6_main_arg1 (c : Dev nD) : W6 m ρ c (Proc.devRef .tc main_arg1) = m ((c : Thread nD τ).loc main_arg1) :=
  W6_args m ρ c main_arg1 (by decide)
theorem W6_main_arg2 (c : Dev nD) : W6 m ρ c (Proc.devRef .tc main_arg2) = m ((c : Thread nD τ).loc main_arg2) :=
  W6_args m ρ c main_arg2 (by decide)
theorem W6_main_arg3 (c : Dev nD) : W6 m ρ c (Proc.devRef .tc main_arg3) = m ((c : Thread nD τ).loc main_arg3) :=
  W6_args m ρ c main_arg3 (by decide)
theorem W6_main_arg4 (c : Dev nD) : W6 m ρ c (Proc.devRef .tc main_arg4) = m ((c : Thread nD τ).loc main_arg4) :=
  W6_args m ρ c main_arg4 (by decide)
theorem W6_main_arg5 (c : Dev nD) : W6 m ρ c (Proc.devRef .tc main_arg5) = m ((c : Thread nD τ).loc main_arg5) :=
  W6_args m ρ c main_arg5 (by decide)
theorem W6_main_arg6 (c : Dev nD) : W6 m ρ c (Proc.devRef .tc main_arg6) = m ((c : Thread nD τ).loc main_arg6) :=
  W6_args m ρ c main_arg6 (by decide)
theorem W6_main_arg7 (c : Dev nD) : W6 m ρ c (Proc.devRef .tc main_arg7) = m ((c : Thread nD τ).loc main_arg7) :=
  W6_args m ρ c main_arg7 (by decide)

/-! ## The proof data family and the thread state -/

/-- The prefetched tables' admissible contents: no pipeline has a table. -/
abbrev adm : (p : Fin 3) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W6`, the generator register at some state. -/
abbrev Tₙ (c : Dev nD) : sProp 𝕄 := iprop(StableHlo.held (c : Thread nD τ) (Pipeline.ucRefs τ sig) (W6 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 2 (custom_call 2) over the thread state: entered from every unscoped buffer at `W5`, left at `W6`
    (what the launch reads at the end). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine Idealize.SL.BI.BIBase.Entails.trans ?_ (hin2 (V5 m ρ) c)
    unfold Pipeline.ΦA
    iintro ⟨Hp, -, Hr⟩
    isplitl [Hr]; · iexact Hr
    iexact Hp
  hout c := by
    rw [Pipeline.ownSems0_none]
    refine Idealize.SL.BI.BIBase.Entails.trans (hout2 (V5 m ρ) c) ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 6 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The whole run: every weakly fair execution from zero counters terminates without a fault, every unscoped buffer ends at
    the last valuation `W6`, and every counter ends at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W6 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

/-- The argument arrays end as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun s h => ⟨(fun c =>
      ⟨(h.1 c _ (mem_uc main_arg0 (by decide))).trans (W6_main_arg0 m ρ c),
       (h.1 c _ (mem_uc main_arg1 (by decide))).trans (W6_main_arg1 m ρ c),
       (h.1 c _ (mem_uc main_arg2 (by decide))).trans (W6_main_arg2 m ρ c),
       (h.1 c _ (mem_uc main_arg3 (by decide))).trans (W6_main_arg3 m ρ c),
       (h.1 c _ (mem_uc main_arg4 (by decide))).trans (W6_main_arg4 m ρ c),
       (h.1 c _ (mem_uc main_arg5 (by decide))).trans (W6_main_arg5 m ρ c),
       (h.1 c _ (mem_uc main_arg6 (by decide))).trans (W6_main_arg6 m ρ c),
       (h.1 c _ (mem_uc main_arg7 (by decide))).trans (W6_main_arg7 m ρ c)⟩), h.2⟩) (run_all m ρ)

/-- The result array ends at what region 2's write-backs leave in it, and the argument arrays as launched. -/
theorem value : θ_run defs (onTc (τ := τ) (main (F := F))) ⟨m, fun _ => 0, ρ⟩ (fun r => ∀ c : Dev nD,
      r.2.mem ((c.tc : Thread nD τ).loc main_v0) = (dat2 (V5 m ρ) c).arrAt 3 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun s h c =>
      ⟨(h.1 c _ (mem_uc main_v0 (by decide))).trans (W6_arr m ρ c 3),
       (h.1 c _ (mem_uc main_arg0 (by decide))).trans (W6_main_arg0 m ρ c),
       (h.1 c _ (mem_uc main_arg1 (by decide))).trans (W6_main_arg1 m ρ c),
       (h.1 c _ (mem_uc main_arg2 (by decide))).trans (W6_main_arg2 m ρ c),
       (h.1 c _ (mem_uc main_arg3 (by decide))).trans (W6_main_arg3 m ρ c),
       (h.1 c _ (mem_uc main_arg4 (by decide))).trans (W6_main_arg4 m ρ c),
       (h.1 c _ (mem_uc main_arg5 (by decide))).trans (W6_main_arg5 m ρ c),
       (h.1 c _ (mem_uc main_arg6 (by decide))).trans (W6_main_arg6 m ρ c),
       (h.1 c _ (mem_uc main_arg7 (by decide))).trans (W6_main_arg7 m ρ c)⟩) (run_all m ρ)

end Cert.KernelIdeal.Whole

end
-- ==== Proof.Maths.Arrays.lean ====
module

public import Idealize.ShloMosaic.Lib.Pointwise
public import Idealize.ShloMosaic.Lib.Pipeline.ValueKit
public import proofs.«01_k».proof.Proof.KernelIdeal.Embed
public import proofs.«01_k».proof.Proof.KernelIdeal.Adj

@[expose] public section

set_option maxRecDepth 8192

/-! What the three regions leave in their output arrays, element by element, over the contents they are entered with. -/

noncomputable section

namespace Cert.Maths

open Cert.KernelIdeal Cert.KernelIdeal.Gen Cert.KernelIdeal.Whole
open Idealize.ShloMosaic Idealize.ShloMosaic.TcCoe
open Idealize.ShloMosaic.Pipeline (Dat Cfg Window)

variable (V : (c : Dev nD) → (b : Ref sig .tc) → Buf (Elt Ideal) ((c : Thread nD τ).loc b))

theorem pay1_apply (a : Vec Ideal S1000x128 .f32) (b : Vec Ideal S128x128 .f32) (c : Vec Ideal S1x128 .f32) (r : Fin 1000) (q : Fin 128) :
    k0_pay1 a b c (ix2 r q) = Ideal.tanh (Ideal.ofBits .f32 0x40400000#32 * (∑ x : Fin 128, a (ix2 r x) * b (ix2 q x) + c (ix2 0 q))) := by
  pointwise [k0_pay1]

theorem pay2_apply (a : Vec Ideal S1000x128 .f32) (b : Vec Ideal S128x128 .f32) (c : Vec Ideal S1x128 .f32) (r : Fin 1000) (q : Fin 128) :
    k0_pay2 a b c (ix2 r q) = Ideal.tanh (Ideal.ofBits .f32 0x40400000#32 * (∑ x : Fin 128, a (ix2 r x) * b (ix2 q x) + c (ix2 0 q))) := by
  pointwise [k0_pay2]

/-- A linear layer and its saturation, at a row and an output. -/
def layer (E : S10000x128.Idx → EReal) (W : S128x128.Idx → EReal) (b : Fin 128 → EReal) (r : Fin 10000) (k : Fin 128) : EReal :=
  Ideal.tanh (Ideal.ofBits .f32 0x40400000#32 * (∑ x : Fin 128, E (ix2 r x) * W (ix2 k x) + b k))

/-- The two embeddings side by side. -/
def beside (n1 n2 : Fin 10000 → Fin 128 → EReal) : S10000x256.Idx → EReal := fun i =>
  if h : (i 1).val < 128 then n1 (i 0) ⟨(i 1).val, h⟩ else n2 (i 0) ⟨(i 1).val - 128, by have : (i 1).val < 256 := (i 1).isLt; omega⟩

theorem idx0_0 : ∀ t : Fin cfg0.N, win0_0.index t = ![t.val, 0] := (by decide +kernel : ∀ t : Fin grid0.N, _)
theorem idx0_1 : ∀ t : Fin cfg0.N, win0_1.index t = ![t.val, 0] := (by decide +kernel : ∀ t : Fin grid0.N, _)
theorem idx0_2 : ∀ t : Fin cfg0.N, win0_2.index t = ![0, 0] := (by decide +kernel : ∀ t : Fin grid0.N, _)
theorem idx0_3 : ∀ t : Fin cfg0.N, win0_3.index t = ![0, 0] := (by decide +kernel : ∀ t : Fin grid0.N, _)
theorem idx0_4 : ∀ t : Fin cfg0.N, win0_4.index t = ![0, 0] := (by decide +kernel : ∀ t : Fin grid0.N, _)
theorem idx0_5 : ∀ t : Fin cfg0.N, win0_5.index t = ![0, 0] := (by decide +kernel : ∀ t : Fin grid0.N, _)
theorem idx0_6 : ∀ t : Fin cfg0.N, win0_6.index t = ![t.val, 0] := (by decide +kernel : ∀ t : Fin grid0.N, _)

theorem beside_left (n1 n2 : Fin 10000 → Fin 128 → EReal) (i : S10000x256.Idx) (r : Fin 10000) (k : Fin 128)
    (h0 : (i 0).val = r.val) (h1 : (i 1).val = k.val) : beside n1 n2 i = n1 r k := by
  unfold beside
  rw [dif_pos (by omega)]
  exact congrArg₂ n1 (Fin.ext h0) (Fin.ext h1)

theorem beside_right (n1 n2 : Fin 10000 → Fin 128 → EReal) (i : S10000x256.Idx) (r : Fin 10000) (k : Fin 128)
    (h0 : (i 0).val = r.val) (h1 : (i 1).val = 128 + k.val) : beside n1 n2 i = n2 r k := by
  unfold beside
  rw [dif_neg (by omega)]
  exact congrArg₂ n2 (Fin.ext h0) (Fin.ext (by show (i 1).val - 128 = k.val; omega))

theorem lt0 (t : Fin cfg0.N) (r : Fin 1000) : t.val * 1000 + r.val < 10000 := by
  have : t.val < 10 := Nat.lt_of_lt_of_eq t.isLt N_0
  omega

theorem blk0_0 (c : Dev nD) (t : Fin cfg0.N) (r : Fin 1000) (x : Fin 128) :
    iblk0 V c 0 t (ix2 r x) = V c main_call0_v0 (ix2 ⟨t.val * 1000 + r.val, lt0 t r⟩ x) := by
  blk_simp [iblk0]
  congr 1
  blk_ext [idx0_0]
theorem blk0_1 (c : Dev nD) (t : Fin cfg0.N) (r : Fin 1000) (x : Fin 128) :
    iblk0 V c 1 t (ix2 r x) = V c main_call0_v1 (ix2 ⟨t.val * 1000 + r.val, lt0 t r⟩ x) := by
  blk_simp [iblk0]
  congr 1
  blk_ext [idx0_1]
theorem blk0_2 (c : Dev nD) (t : Fin cfg0.N) (r : Fin 128) (x : Fin 128) : iblk0 V c 2 t (ix2 r x) = V c main_arg3 (ix2 r x) := by
  blk_simp [iblk0]
  congr 1
  blk_ext [idx0_2]
theorem blk0_3 (c : Dev nD) (t : Fin cfg0.N) (r : Fin 128) (x : Fin 128) : iblk0 V c 3 t (ix2 r x) = V c main_arg5 (ix2 r x) := by
  blk_simp [iblk0]
  congr 1
  blk_ext [idx0_3]
theorem blk0_4 (c : Dev nD) (t : Fin cfg0.N) (x : Fin 128) : iblk0 V c 4 t (ix2 0 x) = V c main_call0_v2 (ix2 0 x) := by
  blk_simp [iblk0]
  congr 1
  blk_ext [idx0_4]
theorem blk0_5 (c : Dev nD) (t : Fin cfg0.N) (x : Fin 128) : iblk0 V c 5 t (ix2 0 x) = V c main_call0_v3 (ix2 0 x) := by
  blk_simp [iblk0]
  congr 1
  blk_ext [idx0_5]

/-- The first region's array. -/
theorem arr0 (c : Dev nD) : (dat0 V c).arrAt 6 cfg0.N = beside
    (layer (V c main_call0_v0) (V c main_arg3) (fun k => V c main_call0_v2 (ix2 0 k)))
    (layer (V c main_call0_v1) (V c main_arg5) (fun k => V c main_call0_v3 (ix2 0 k))) := by
  refine (dat0 V c).arrAt_eq_of_covers 6 _ (by decide +kernel) fun t hf y => ?_
  blk_simp
  rw [after0_6]
  unfold out0_6
  idx_vars y
  have e0 : ((((View.whole main_call0_v4).slice (win0_6.rect t)).emb (ix2 y0 y1)) 0).val = t.val * 1000 + y0.val := by
    blk_simp [idx0_6]
  have e1 : ((((View.whole main_call0_v4).slice (win0_6.rect t)).emb (ix2 y0 y1)) 1).val = y1.val := by
    blk_simp [idx0_6]
  canon_tiles x h
  · idx_vars x
    have h0 : y0.val = x0.val := h0
    have h1 : y1.val = 128 + x1.val := h1
    rw [beside_right _ _ _ ⟨t.val * 1000 + x0.val, lt0 t x0⟩ x1 (e0.trans (by rw [h0])) (e1.trans h1)]
    refine (pay2_apply _ _ _ x0 x1).trans ?_
    rw [View.ld_unit_lit _ _ (by decide), View.ld_unit_lit _ _ (by decide), View.ld_unit_lit _ _ (by decide)]
    simp only [blk0_1, blk0_3, blk0_5]
    rfl
  · idx_vars x
    have h0 : y0.val = x0.val := h0
    have h1 : y1.val = x1.val := h1
    rw [beside_left _ _ _ ⟨t.val * 1000 + x0.val, lt0 t x0⟩ x1 (e0.trans (by rw [h0])) (e1.trans h1)]
    refine (pay1_apply _ _ _ x0 x1).trans ?_
    rw [View.ld_unit_lit _ _ (by decide), View.ld_unit_lit _ _ (by decide), View.ld_unit_lit _ _ (by decide)]
    simp only [blk0_0, blk0_2, blk0_4]
    rfl

/-! ## The second region -/

theorem pay1t_apply (a : Vec Ideal S128x128 .f32) (b : Vec Ideal S10000x128 .f32) (c : Vec Ideal S128x1 .f32) (r : Fin 128) (q : Fin 10000) :
    k1_pay1 a b c (ix2 r q) = Ideal.tanh (Ideal.ofBits .f32 0x40400000#32 * (∑ x : Fin 128, a (ix2 r x) * b (ix2 q x) + c (ix2 r 0))) := by
  pointwise [k1_pay1]

theorem pay2t_apply (a : Vec Ideal S128x128 .f32) (b : Vec Ideal S10000x128 .f32) (c : Vec Ideal S128x1 .f32) (r : Fin 128) (q : Fin 10000) :
    k1_pay2 a b c (ix2 r q) = Ideal.tanh (Ideal.ofBits .f32 0x40400000#32 * (∑ x : Fin 128, a (ix2 r x) * b (ix2 q x) + c (ix2 r 0))) := by
  pointwise [k1_pay2]

/-- The transposed layer is the layer. -/
theorem layer_comm (E : S10000x128.Idx → EReal) (W : S128x128.Idx → EReal) (b : Fin 128 → EReal) (r : Fin 10000) (k : Fin 128) :
    Ideal.tanh (Ideal.ofBits .f32 0x40400000#32 * (∑ x : Fin 128, W (ix2 k x) * E (ix2 r x) + b k)) = layer E W b r k := by
  unfold layer
  rw [show (∑ x : Fin 128, W (ix2 k x) * E (ix2 r x)) = ∑ x : Fin 128, E (ix2 r x) * W (ix2 k x) from
    Finset.sum_congr rfl fun x _ => mul_comm _ _]

/-- The two embeddings transposed, the second above the first. -/
def above (n1 n2 : Fin 10000 → Fin 128 → EReal) : S256x10000.Idx → EReal := fun i =>
  if h : (i 0).val < 128 then n2 (i 1) ⟨(i 0).val, h⟩ else n1 (i 1) ⟨(i 0).val - 128, by have : (i 0).val < 256 := (i 0).isLt; omega⟩

theorem above_top (n1 n2 : Fin 10000 → Fin 128 → EReal) (i : S256x10000.Idx) (r : Fin 10000) (k : Fin 128)
    (h0 : (i 0).val = k.val) (h1 : (i 1).val = r.val) : above n1 n2 i = n2 r k := by
  unfold above
  rw [dif_pos (by omega)]
  exact congrArg₂ n2 (Fin.ext h1) (Fin.ext h0)

theorem above_bottom (n1 n2 : Fin 10000 → Fin 128 → EReal) (i : S256x10000.Idx) (r : Fin 10000) (k : Fin 128)
    (h0 : (i 0).val = 128 + k.val) (h1 : (i 1).val = r.val) : above n1 n2 i = n1 r k := by
  unfold above
  rw [dif_neg (by omega)]
  exact congrArg₂ n1 (Fin.ext h1) (Fin.ext (by show (i 0).val - 128 = k.val; omega))

theorem idx1_0 : ∀ t : Fin cfg1.N, win1_0.index t = ![0, 0] := (by decide +kernel : ∀ t : Fin grid1.N, _)
theorem idx1_1 : ∀ t : Fin cfg1.N, win1_1.index t = ![0, 0] := (by decide +kernel : ∀ t : Fin grid1.N, _)
theorem idx1_2 : ∀ t : Fin cfg1.N, win1_2.index t = ![0, 0] := (by decide +kernel : ∀ t : Fin grid1.N, _)
theorem idx1_3 : ∀ t : Fin cfg1.N, win1_3.index t = ![0, 0] := (by decide +kernel : ∀ t : Fin grid1.N, _)
theorem idx1_4 : ∀ t : Fin cfg1.N, win1_4.index t = ![0, 0] := (by decide +kernel : ∀ t : Fin grid1.N, _)
theorem idx1_5 : ∀ t : Fin cfg1.N, win1_5.index t = ![0, 0] := (by decide +kernel : ∀ t : Fin grid1.N, _)
theorem idx1_6 : ∀ t : Fin cfg1.N, win1_6.index t = ![0, 0] := (by decide +kernel : ∀ t : Fin grid1.N, _)
theorem blk1_0 (c : Dev nD) (t : Fin cfg1.N) (r : Fin 10000) (x : Fin 128) : iblk1 V c 0 t (ix2 r x) = V c main_call0_v0 (ix2 r x) := by
  blk_simp [iblk1]
  congr 1
  blk_ext [idx1_0]
theorem blk1_1 (c : Dev nD) (t : Fin cfg1.N) (r : Fin 10000) (x : Fin 128) : iblk1 V c 1 t (ix2 r x) = V c main_call0_v1 (ix2 r x) := by
  blk_simp [iblk1]
  congr 1
  blk_ext [idx1_1]
theorem blk1_2 (c : Dev nD) (t : Fin cfg1.N) (r : Fin 128) (x : Fin 128) : iblk1 V c 2 t (ix2 r x) = V c main_arg3 (ix2 r x) := by
  blk_simp [iblk1]
  congr 1
  blk_ext [idx1_2]
theorem blk1_3 (c : Dev nD) (t : Fin cfg1.N) (r : Fin 128) (x : Fin 128) : iblk1 V c 3 t (ix2 r x) = V c main_arg5 (ix2 r x) := by
  blk_simp [iblk1]
  congr 1
  blk_ext [idx1_3]
theorem blk1_4 (c : Dev nD) (t : Fin cfg1.N) (r : Fin 128) : iblk1 V c 4 t (ix2 r 0) = V c main_call0_v5 (ix2 r 0) := by
  blk_simp [iblk1]
  congr 1
  blk_ext [idx1_4]
theorem blk1_5 (c : Dev nD) (t : Fin cfg1.N) (r : Fin 128) : iblk1 V c 5 t (ix2 r 0) = V c main_call0_v6 (ix2 r 0) := by
  blk_simp [iblk1]
  congr 1
  blk_ext [idx1_5]

/-- The second region's array. -/
theorem arr1 (c : Dev nD) : (dat1 V c).arrAt 6 cfg1.N = above
    (layer (V c main_call0_v0) (V c main_arg3) (fun k => V c main_call0_v5 (ix2 k 0)))
    (layer (V c main_call0_v1) (V c main_arg5) (fun k => V c main_call0_v6 (ix2 k 0))) := by
  refine (dat1 V c).arrAt_eq_of_covers 6 _ (by decide +kernel) fun t hf y => ?_
  blk_simp
  rw [after1_6]
  unfold out1_6
  idx_vars y
  have e0 : ((((View.whole main_call0_v7).slice (win1_6.rect t)).emb (ix2 y0 y1)) 0).val = y0.val := by
    blk_simp [idx1_6]
  have e1 : ((((View.whole main_call0_v7).slice (win1_6.rect t)).emb (ix2 y0 y1)) 1).val = y1.val := by
    blk_simp [idx1_6]
  canon_tiles x h
  · idx_vars x
    have h0 : y0.val = x0.val := h0
    have h1 : y1.val = x1.val := h1
    rw [above_top _ _ _ x1 x0 (e0.trans h0) (e1.trans h1)]
    refine (pay2t_apply _ _ _ x0 x1).trans ?_
    rw [View.ld_unit_lit _ _ (by decide), View.ld_unit_lit _ _ (by decide), View.ld_unit_lit _ _ (by decide)]
    simp only [blk1_1, blk1_3, blk1_5]
    exact layer_comm _ _ (fun k => V c main_call0_v6 (ix2 k 0)) _ _
  · idx_vars x
    have h0 : y0.val = 128 + x0.val := h0
    have h1 : y1.val = x1.val := h1
    rw [above_bottom _ _ _ x1 x0 (e0.trans h0) (e1.trans h1)]
    refine (pay1t_apply _ _ _ x0 x1).trans ?_
    rw [View.ld_unit_lit _ _ (by decide), View.ld_unit_lit _ _ (by decide), View.ld_unit_lit _ _ (by decide)]
    simp only [blk1_0, blk1_2, blk1_4]
    exact layer_comm _ _ (fun k => V c main_call0_v5 (ix2 k 0)) _ _

/-! ## The third region -/

theorem idx2_0 : ∀ t : Fin cfg2.N, win2_0.index t = ![0, 0] := (by decide +kernel : ∀ t : Fin grid2.N, _)
theorem idx2_1 : ∀ t : Fin cfg2.N, win2_1.index t = ![t.val, 0] := (by decide +kernel : ∀ t : Fin grid2.N, _)
theorem idx2_2 : ∀ t : Fin cfg2.N, win2_2.index t = ![0, 0] := (by decide +kernel : ∀ t : Fin grid2.N, _)
theorem idx2_3 : ∀ t : Fin cfg2.N, win2_3.index t = ![t.val, 0] := (by decide +kernel : ∀ t : Fin grid2.N, _)
theorem point2 : ∀ t : Fin cfg2.N, (grid2.coords t 0).val = t.val := (by decide +kernel : ∀ t : Fin grid2.N, _)

theorem lt2 (t : Fin cfg2.N) (r : Fin 80) : t.val * 80 + r.val < 10000 := by
  have : t.val < 125 := Nat.lt_of_lt_of_eq t.isLt N_2
  omega

theorem blk2_0 (c : Dev nD) (t : Fin cfg2.N) : iblk2 V c 0 t (ix2 0 0) = V c main_call0_v9 (ix2 0 0) := by
  blk_simp [iblk2]
  congr 1
  blk_ext [idx2_0]
theorem blk2_1 (c : Dev nD) (t : Fin cfg2.N) (r : Fin 80) (x : Fin 256) :
    iblk2 V c 1 t (ix2 r x) = V c main_call0_v4 (ix2 ⟨t.val * 80 + r.val, lt2 t r⟩ x) := by
  blk_simp [iblk2]
  congr 1
  blk_ext [idx2_1]
theorem blk2_2 (c : Dev nD) (t : Fin cfg2.N) (x : Fin 256) (q : Fin 10000) : iblk2 V c 2 t (ix2 x q) = V c main_call0_v7 (ix2 x q) := by
  blk_simp [iblk2]
  congr 1
  blk_ext [idx2_2]

/-- The third region's array is `G` once every block's rows are. -/
theorem arr2 (c : Dev nD) (G : S10000x10000.Idx → EReal)
    (hG : ∀ (t : Fin cfg2.N) (r : Fin 80) (q : Fin 10000),
      adjOut (F := Ideal) (grid2.coords t) (iblk2 V c 0 t) (iblk2 V c 1 t) (iblk2 V c 2 t) k2_pay6 (ix2 r q) = G (ix2 ⟨t.val * 80 + r.val, lt2 t r⟩ q)) :
    (dat2 V c).arrAt 3 cfg2.N = G := by
  refine (dat2 V c).arrAt_eq_of_covers 3 _ (by decide +kernel) fun t hf y => ?_
  blk_simp
  rw [after2_3]
  idx_vars y
  refine (hG t y0 y1).trans (congrArg G ?_)
  blk_ext [idx2_3]

end Cert.Maths
-- ==== Proof.Maths.Halving.lean ====
module

public import Idealize.ShloMosaic.Lib.IdealHost
public import Mathlib.Algebra.Order.Floor.Ring
public import Mathlib.Data.Fintype.Card

@[expose] public section

/-! Two facts with no kernel in them: repeated halving of an interval towards a value rounds that value down to the
interval's grid, and counting the entries above a level compares the level with an entry of the sorted list. -/

noncomputable section

namespace Cert.Maths

/-- `k` halvings of `[lo, hi]`, each keeping the half that `v` lies in. -/
def halve (v lo hi : ℝ) : ℕ → ℝ × ℝ
  | 0 => (lo, hi)
  | k + 1 =>
    if (1/2 : ℝ) * ((halve v lo hi k).1 + (halve v lo hi k).2) ≤ v
    then ((1/2 : ℝ) * ((halve v lo hi k).1 + (halve v lo hi k).2), (halve v lo hi k).2)
    else ((halve v lo hi k).1, (1/2 : ℝ) * ((halve v lo hi k).1 + (halve v lo hi k).2))

/-- After `k` halvings the interval is one cell of the grid of `2^k` cells, and `v` is in it, or above it when it is
the last. -/
theorem halve_cell (v lo hi : ℝ) (hv : lo ≤ v) (k : ℕ) :
    ∃ j : ℕ, j + 1 ≤ 2 ^ k ∧ (halve v lo hi k).1 = lo + j * ((hi - lo) / 2 ^ k) ∧
      (halve v lo hi k).2 = lo + (j + 1) * ((hi - lo) / 2 ^ k) ∧ (halve v lo hi k).1 ≤ v ∧
      (j + 1 = 2 ^ k ∨ v < (halve v lo hi k).2) := by
  induction k with
  | zero => exact ⟨0, by norm_num, by simp [halve], by simp [halve], by simpa [halve] using hv, Or.inl (by norm_num)⟩
  | succ k ih =>
    obtain ⟨j, hj, h1, h2, h3, h4⟩ := ih
    have hd : (hi - lo) / 2 ^ (k + 1) = (hi - lo) / 2 ^ k / 2 := by rw [pow_succ]; field_simp
    have hp : 2 ^ (k + 1) = 2 * 2 ^ k := by rw [pow_succ]; ring
    have hm : (1/2 : ℝ) * ((halve v lo hi k).1 + (halve v lo hi k).2) = lo + (2 * j + 1) * ((hi - lo) / 2 ^ (k + 1)) := by
      rw [h1, h2, hd]; ring
    by_cases hc : (1/2 : ℝ) * ((halve v lo hi k).1 + (halve v lo hi k).2) ≤ v
    · refine ⟨2 * j + 1, by omega, ?_, ?_, ?_, ?_⟩
      · simp only [halve, if_pos hc]; rw [hm]; push_cast; ring
      · simp only [halve, if_pos hc]; rw [h2, hd]; push_cast; ring
      · simp only [halve, if_pos hc]; exact hc
      · simp only [halve, if_pos hc]
        rcases h4 with h4 | h4
        · left; omega
        · right; exact h4
    · refine ⟨2 * j, by omega, ?_, ?_, ?_, ?_⟩
      · simp only [halve, if_neg hc]; rw [h1, hd]; push_cast; ring
      · simp only [halve, if_neg hc]; rw [hm]; push_cast; ring
      · simp only [halve, if_neg hc]; exact h3
      · simp only [halve, if_neg hc]; right; exact not_le.1 hc

/-- Fourteen halvings of `[lo, hi]` towards `v` end at `v` rounded down to the grid of `2^14` steps, the last grid point
being the last step's start. -/
theorem halve_floor (v lo hi : ℝ) (hv : lo ≤ v) (h : lo < hi) :
    (halve v lo hi 14).1 = lo + min ((⌊(v - lo) / ((hi - lo) / 16384)⌋ : ℤ) : ℝ) 16383 * ((hi - lo) / 16384) := by
  obtain ⟨j, hj, h1, h2, h3, h4⟩ := halve_cell v lo hi hv 14
  have hd : (0 : ℝ) < (hi - lo) / 16384 := by apply div_pos <;> linarith
  have e : ((2 : ℝ) ^ 14) = 16384 := by norm_num
  have e' : (2 : ℕ) ^ 14 = 16384 := by norm_num
  rw [e] at h1 h2
  rw [e'] at hj h4
  set d := (hi - lo) / 16384 with hdd
  have hle : (j : ℝ) ≤ (v - lo) / d := by rw [le_div_iff₀ hd]; linarith [h1 ▸ h3]
  have hf : (j : ℤ) ≤ ⌊(v - lo) / d⌋ := Int.le_floor.2 (by exact_mod_cast hle)
  have hfr : ((j : ℕ) : ℝ) ≤ ((⌊(v - lo) / d⌋ : ℤ) : ℝ) := by exact_mod_cast hf
  rw [h1]
  congr 2
  rcases h4 with h4 | h4
  · have : (j : ℝ) = 16383 := by
      have : j = 16383 := by omega
      rw [this]; norm_num
    rw [min_eq_right (by linarith), this]
  · have hlt : (v - lo) / d < (j : ℝ) + 1 := by rw [div_lt_iff₀ hd]; linarith [h2 ▸ h4]
    have : ⌊(v - lo) / d⌋ = (j : ℤ) := le_antisymm (Int.lt_add_one_iff.1 (Int.floor_lt.2 (by push_cast; exact hlt))) hf
    have hr : ((⌊(v - lo) / d⌋ : ℤ) : ℝ) = j := by rw [this]; norm_num
    rw [hr, min_eq_left]
    have : (j : ℝ) + 1 ≤ 16384 := by exact_mod_cast hj
    linarith

/-- In a list read in descending order through `σ`, the entry at place `k` is at least `t` exactly when at least `k + 1`
entries are. -/
theorem le_sorted_iff {n : ℕ} {α : Type*} [LinearOrder α] (x : Fin n → α) (σ : Fin n → Fin n) (hσ : Function.Bijective σ)
    (hx : ∀ i j, i < j → x (σ j) ≤ x (σ i)) (k : Fin n) (t : α) :
    t ≤ x (σ k) ↔ (k : ℕ) + 1 ≤ (Finset.univ.filter fun j => t ≤ x j).card := by
  constructor
  · intro h
    have hs : (Finset.Iic k).image σ ⊆ Finset.univ.filter fun j => t ≤ x j := by
      intro y hy
      obtain ⟨i, hi, rfl⟩ := Finset.mem_image.1 hy
      refine Finset.mem_filter.2 ⟨Finset.mem_univ _, ?_⟩
      rcases (Finset.mem_Iic.1 hi).lt_or_eq with h' | h'
      · exact h.trans (hx i k h')
      · rw [h']; exact h
    have := Finset.card_le_card hs
    rwa [Finset.card_image_of_injective _ hσ.1, Fin.card_Iic] at this
  · intro h
    by_contra hn
    have hs : (Finset.univ.filter fun j => t ≤ x j) ⊆ (Finset.Iio k).image σ := by
      intro y hy
      obtain ⟨i, rfl⟩ := hσ.2 y
      refine Finset.mem_image.2 ⟨i, Finset.mem_Iio.2 ?_, rfl⟩
      by_contra hk
      have ht := (Finset.mem_filter.1 hy).2
      rcases (not_lt.1 hk).lt_or_eq with h' | h'
      · exact hn (ht.trans (hx k i h'))
      · exact hn (h' ▸ ht)
    have := Finset.card_le_card hs
    rw [Finset.card_image_of_injective _ hσ.1, Fin.card_Iio] at this
    omega

/-- The first entry of a list read in descending order is the largest. -/
theorem le_sorted_first {n : ℕ} {α : Type*} [LinearOrder α] (x : Fin n → α) (σ : Fin n → Fin n) (hσ : Function.Bijective σ)
    (hx : ∀ i j, i < j → x (σ j) ≤ x (σ i)) (k : Fin n) (hk : (k : ℕ) = 0) (j : Fin n) : x j ≤ x (σ k) := by
  obtain ⟨i, rfl⟩ := hσ.2 j
  rcases Nat.eq_zero_or_pos (i : ℕ) with h | h
  · have : i = k := Fin.ext (h.trans hk.symm)
    rw [this]
  · exact hx k i (Fin.lt_def.2 (by omega))

end Cert.Maths
-- ==== Proof.Maths.Scalar.lean ====
module

public import Idealize.ShloMosaic.Lib.IdealHost
public import proofs.«01_k».proof.Proof.Maths.Halving

@[expose] public section

/-! The scalar facts: the constants as reals, a fraction built from 23 bits in two ways, and the values of the
embedding, the similarity and the noise, all of them finite. -/

noncomputable section

namespace Cert.Maths

open Idealize.ShloMosaic

/-! ## The constants -/

theorem half_f32 : Ideal.ofBits .f32 0x3F000000#32 = ((1/2 : ℝ) : EReal) := by
  simp [Ideal.ofBits, Ideal.ieee, -EReal.coe_mul]; norm_num
theorem two_f32 : Ideal.ofBits .f32 0x40000000#32 = ((2 : ℝ) : EReal) := by
  simp [Ideal.ofBits, Ideal.ieee, -EReal.coe_mul]; norm_num
theorem ten_f32 : Ideal.ofBits .f32 0x41200000#32 = ((10 : ℝ) : EReal) := by
  simp [Ideal.ofBits, Ideal.ieee, -EReal.coe_mul]; norm_num
theorem k_f32 : Ideal.ofBits .f32 0x42800000#32 = ((64 : ℝ) : EReal) := by
  simp [Ideal.ofBits, Ideal.ieee, -EReal.coe_mul]; norm_num
theorem steps_f32 : Ideal.ofBits .f32 0x46800000#32 = ((16384 : ℝ) : EReal) := by
  simp [Ideal.ofBits, Ideal.ieee, -EReal.coe_mul]; norm_num
theorem lastStep_f32 : Ideal.ofBits .f32 0x467FFC00#32 = ((16383 : ℝ) : EReal) := by
  simp [Ideal.ofBits, Ideal.ieee, -EReal.coe_mul]; norm_num
theorem unit_f32 : Ideal.ofBits .f32 0x34000000#32 = ((1 / 8388608 : ℝ) : EReal) := by
  simp [Ideal.ofBits, Ideal.ieee, -EReal.coe_mul]; norm_num
theorem bot_f32 : Ideal.ofBits .f32 0xFF800000#32 = ⊥ := by simp [Ideal.ofBits, Ideal.ieee]

/-- The small constant added inside both logarithms. -/
def tiny : ℝ := 14411519 / 144115188075855872
theorem tiny_f32 : Ideal.ofBits .f32 0x2EDBE6FF#32 = ((tiny : ℝ) : EReal) := by
  simp [Ideal.ofBits, Ideal.ieee, -EReal.coe_mul, tiny]; norm_num
/-- The lower end of the threshold's interval. -/
def lowEnd : ℝ := -(15518925 / 4194304)
theorem lowEnd_f32 : Ideal.ofBits .f32 0xC06CCCCD#32 = ((lowEnd : ℝ) : EReal) := by
  simp [Ideal.ofBits, Ideal.ieee, -EReal.coe_mul, -EReal.coe_neg, lowEnd]; norm_num

/-! ## The uniform fraction -/

/-- A float whose exponent is one's and whose significand is `w`, less one, is `w` over `2^23`. -/
theorem fraction_eq (w : BitVec 32) (h : w.toNat < 8388608) :
    Ideal.ofBits .f32 (w ||| 1065353216#32) - 1 = ((w.toInt : ℝ) : EReal) * Ideal.ofBits .f32 0x34000000#32 := by
  have hbit : ∀ i, 23 ≤ i → w.getLsbD i = false := fun i hi => by
    rw [BitVec.getLsbD]; exact Nat.testBit_lt_two_pow (h.trans_le (by calc 8388608 = 2 ^ 23 := by norm_num
      _ ≤ 2 ^ i := Nat.pow_le_pow_right (by norm_num) hi))
  have hor : ∀ i, (w ||| 1065353216#32).getLsbD i = (w.getLsbD i || (1065353216#32).getLsbD i) := fun i => BitVec.getLsbD_or
  have hex : (w ||| 1065353216#32).extractLsb' 23 8 = 127#8 := by
    apply BitVec.eq_of_getLsbD_eq; intro i hi
    rw [BitVec.getLsbD_extractLsb', hor, hbit _ (by omega)]
    interval_cases i <;> rfl
  have hsg : (w ||| 1065353216#32).extractLsb' 31 1 = 0#1 := by
    apply BitVec.eq_of_getLsbD_eq; intro i hi
    rw [BitVec.getLsbD_extractLsb', hor, hbit _ (by omega)]
    interval_cases i; rfl
  have hfr : (w ||| 1065353216#32).extractLsb' 0 23 = w.setWidth 23 := by
    apply BitVec.eq_of_getLsbD_eq; intro i hi
    rw [BitVec.getLsbD_extractLsb', hor, BitVec.getLsbD_setWidth]
    have : (1065353216#32).getLsbD (0 + i) = false := by interval_cases i <;> rfl
    rw [this]; simp [hi]
  have hfn : (w.setWidth 23).toNat = w.toNat := by
    rw [BitVec.toNat_setWidth]; exact Nat.mod_eq_of_lt (by norm_num; exact h)
  have hint : w.toInt = (w.toNat : ℤ) := BitVec.toInt_eq_toNat_of_lt (by omega)
  rw [unit_f32, hint, show (1 : EReal) = ((1 : ℝ) : EReal) by norm_cast]
  simp only [Ideal.ofBits, Ideal.ieee]
  rw [hex, hsg, hfr, hfn]
  norm_num [-EReal.coe_mul]
  rw [show ((w.toNat : ℕ) : EReal) = (((w.toNat : ℕ) : ℝ) : EReal) from (EReal.coe_natCast).symm, ← EReal.coe_mul,
    ← EReal.coe_one, ← EReal.coe_sub]
  congr 1
  ring

theorem coe_max (a b : ℝ) : ((max a b : ℝ) : EReal) = max (a : EReal) (b : EReal) :=
  EReal.coe_strictMono.monotone.map_max
theorem coe_min (a b : ℝ) : ((min a b : ℝ) : EReal) = min (a : EReal) (b : EReal) :=
  EReal.coe_strictMono.monotone.map_min

/-! ## The noise -/

theorem log_coe_pos {r : ℝ} (h : 0 < r) : Ideal.log ((r : ℝ) : EReal) = ((Real.log r : ℝ) : EReal) := by
  rw [Ideal.log_coe, if_neg (not_le.2 h)]

/-- The noise made of the 23 random bits `w`. -/
def noise (w : BitVec 32) : EReal :=
  -(Ideal.log (-(Ideal.log (((w.toInt : ℝ) : EReal) * Ideal.ofBits .f32 0x34000000#32 + Ideal.ofBits .f32 0x2EDBE6FF#32))
    + Ideal.ofBits .f32 0x2EDBE6FF#32))

theorem exp_one_ge : (2.718 : ℝ) ≤ Real.exp 1 := by
  refine le_trans ?_ (Real.sum_le_exp_of_nonneg (by norm_num : (0:ℝ) ≤ 1) 8)
  norm_num [Finset.sum_range_succ, Nat.factorial]

/-- The noise is a real number, at least -3.2. -/
theorem noise_real (w : BitVec 32) (h : w.toNat < 8388608) : ∃ r : ℝ, noise w = (r : EReal) ∧ -(16/5) ≤ r := by
  have hint : w.toInt = (w.toNat : ℤ) := BitVec.toInt_eq_toNat_of_lt (by omega)
  have hw : ((w.toNat : ℕ) : ℝ) ≤ 8388607 := by exact_mod_cast (by omega : w.toNat ≤ 8388607)
  have hw0 : (0 : ℝ) ≤ ((w.toNat : ℕ) : ℝ) := Nat.cast_nonneg _
  have ht : (0 : ℝ) < tiny := by norm_num [tiny]
  set x : ℝ := (w.toNat : ℝ) * (1 / 8388608) + tiny with hx
  have hx0 : tiny ≤ x := by rw [hx]; linarith [mul_nonneg hw0 (by norm_num : (0:ℝ) ≤ 1 / 8388608)]
  have hx1 : x < 1 := by rw [hx]; norm_num [tiny]; linarith
  have hxp : 0 < x := lt_of_lt_of_le ht hx0
  have hl : Real.log x < 0 := Real.log_neg hxp hx1
  have hl2 : -24 ≤ Real.log x := by
    rw [Real.le_log_iff_exp_le hxp]
    refine le_trans ?_ hx0
    rw [Real.exp_neg, show (24 : ℝ) = ((24 : ℕ) : ℝ) * 1 by norm_num, Real.exp_nat_mul]
    have : (2.718 : ℝ) ^ 24 ≤ Real.exp 1 ^ 24 := pow_le_pow_left₀ (by norm_num) exp_one_ge 24
    have h3 : (tiny)⁻¹ ≤ (2.718 : ℝ) ^ 24 := by norm_num [tiny]
    calc (Real.exp 1 ^ 24)⁻¹ ≤ (tiny⁻¹)⁻¹ := inv_anti₀ (inv_pos.2 ht) (h3.trans this)
      _ = tiny := inv_inv _
  have hy : 0 < -Real.log x + tiny := by linarith
  refine ⟨-Real.log (-Real.log x + tiny), ?_, ?_⟩
  · unfold noise
    rw [unit_f32, tiny_f32, hint]
    push_cast
    rw [show ((w.toNat : ℕ) : EReal) = (((w.toNat : ℕ) : ℝ) : EReal) from (EReal.coe_natCast).symm, ← EReal.coe_mul,
      ← EReal.coe_add, log_coe_pos hxp, ← EReal.coe_neg, ← EReal.coe_add, log_coe_pos hy, ← EReal.coe_neg]
  · rw [neg_le_neg_iff, Real.log_le_iff_le_exp hy]
    have h3 : Real.exp (16/5) = Real.exp 1 ^ 3 * Real.exp (1/5) := by
      rw [← Real.exp_nat_mul, ← Real.exp_add]; congr 1; norm_num
    have h4 : (2.718 : ℝ) ^ 3 ≤ Real.exp 1 ^ 3 := pow_le_pow_left₀ (by norm_num) exp_one_ge 3
    have h5 : (1.22 : ℝ) ≤ Real.exp (1/5) := le_trans (by norm_num) (Real.quadratic_le_exp_of_nonneg (by norm_num))
    have h6 : (2.718 : ℝ) ^ 3 * 1.22 ≤ Real.exp 1 ^ 3 * Real.exp (1/5) :=
      mul_le_mul h4 h5 (by norm_num) (by positivity)
    rw [h3]
    refine le_trans ?_ h6
    have : tiny ≤ 0.001 := by norm_num [tiny]
    norm_num at this ⊢
    linarith

/-! ## The similarity -/

/-- The adjacency value of a similarity `s`: softplus less a half. -/
def softHalf (s : EReal) : EReal :=
  max s 0 + Ideal.log1p (Ideal.exp (-(max s (-s)))) - Ideal.ofBits .f32 0x3F000000#32

/-- At a real similarity it is real and above minus a half. -/
theorem softHalf_real (s : ℝ) : ∃ r : ℝ, softHalf (s : EReal) = (r : EReal) ∧ -(1/2) < r := by
  have hp : 0 < 1 + Real.exp (-(max s (-s))) := by positivity
  refine ⟨max s 0 + Real.log (1 + Real.exp (-(max s (-s)))) - 1/2, ?_, ?_⟩
  · unfold softHalf Ideal.log1p
    rw [half_f32, ← EReal.coe_neg, ← EReal.coe_zero, ← coe_max, ← coe_max, ← EReal.coe_neg, Ideal.exp_coe, ← EReal.coe_one,
      ← EReal.coe_add, log_coe_pos hp, ← EReal.coe_add, ← EReal.coe_sub]
  · have h1 : 0 ≤ max s 0 := le_max_right _ _
    have h2 : 0 < Real.log (1 + Real.exp (-(max s (-s)))) := Real.log_pos (by linarith [Real.exp_pos (-(max s (-s)))])
    linarith

/-- A hyperbolic tangent is a real number, whatever its argument. -/
theorem tanh_real (x : EReal) : ∃ r : ℝ, Ideal.tanh x = (r : EReal) := by
  induction x with
  | bot => exact ⟨-1, by rw [Ideal.tanh_bot, EReal.coe_neg, EReal.coe_one]⟩
  | top => exact ⟨1, by rw [Ideal.tanh_top, EReal.coe_one]⟩
  | coe r => exact ⟨_, Ideal.tanh_coe _⟩

end Cert.Maths
-- ==== Proof.Maths.Words.lean ====
module

public import proofs.«01_k».proof.Proof.Gen.KernelIdeal.Skeleton
public import proofs.«01_k».proof.Proof.Gen.ReferenceIdeal.Run
public import proofs.«01_k».proof.Proof.KernelIdeal.Adj

@[expose] public section

set_option maxRecDepth 8192

/-! The random words: the kernel and the reference mix the same counter through the same twenty rounds, so the word at
an element is one function of the element's counter. -/

noncomputable section

namespace Cert.Words

open Idealize.ShloMosaic

/-- One round on a pair of words: the second is rotated left by `a` (`b` is `32 - a`) and xored with the first. -/
def mix (a b : BitVec 32) (p : BitVec 32 × BitVec 32) : BitVec 32 × BitVec 32 :=
  (p.1 + (p.1 ^^^ (p.2 <<< a ||| p.2 >>> b)), p.1 ^^^ (p.2 <<< a ||| p.2 >>> b))

/-- A round with the key words `k0`, `k1` added after it (and the next round's sum already taken). -/
def mixKey (a b k0 k1 : BitVec 32) (p : BitVec 32 × BitVec 32) : BitVec 32 × BitVec 32 :=
  (p.1 + k0 + ((p.1 ^^^ (p.2 <<< a ||| p.2 >>> b)) + k1), (p.1 ^^^ (p.2 <<< a ||| p.2 >>> b)) + k1)

/-- The pair the rounds start from, at counter `c`. -/
def w0 (c : BitVec 32) : BitVec 32 × BitVec 32 := (0 + c, c)

/-- The pair after round 1. -/
def w1 (c : BitVec 32) : BitVec 32 × BitVec 32 := mix 13#32 19#32 (w0 c)
/-- The pair after round 2. -/
def w2 (c : BitVec 32) : BitVec 32 × BitVec 32 := mix 15#32 17#32 (w1 c)
/-- The pair after round 3. -/
def w3 (c : BitVec 32) : BitVec 32 × BitVec 32 := mix 26#32 6#32 (w2 c)
/-- The pair after round 4. -/
def w4 (c : BitVec 32) : BitVec 32 × BitVec 32 := mixKey 6#32 26#32 42#32 466689009#32 (w3 c)
/-- The pair after round 5. -/
def w5 (c : BitVec 32) : BitVec 32 × BitVec 32 := mix 17#32 15#32 (w4 c)
/-- The pair after round 6. -/
def w6 (c : BitVec 32) : BitVec 32 × BitVec 32 := mix 29#32 3#32 (w5 c)
/-- The pair after round 7. -/
def w7 (c : BitVec 32) : BitVec 32 × BitVec 32 := mix 16#32 16#32 (w6 c)
/-- The pair after round 8. -/
def w8 (c : BitVec 32) : BitVec 32 × BitVec 32 := mixKey 24#32 8#32 466689008#32 2#32 (w7 c)
/-- The pair after round 9. -/
def w9 (c : BitVec 32) : BitVec 32 × BitVec 32 := mix 13#32 19#32 (w8 c)
/-- The pair after round 10. -/
def w10 (c : BitVec 32) : BitVec 32 × BitVec 32 := mix 15#32 17#32 (w9 c)
/-- The pair after round 11. -/
def w11 (c : BitVec 32) : BitVec 32 × BitVec 32 := mix 26#32 6#32 (w10 c)
/-- The pair after round 12. -/
def w12 (c : BitVec 32) : BitVec 32 × BitVec 32 := mixKey 6#32 26#32 0#32 45#32 (w11 c)
/-- The pair after round 13. -/
def w13 (c : BitVec 32) : BitVec 32 × BitVec 32 := mix 17#32 15#32 (w12 c)
/-- The pair after round 14. -/
def w14 (c : BitVec 32) : BitVec 32 × BitVec 32 := mix 29#32 3#32 (w13 c)
/-- The pair after round 15. -/
def w15 (c : BitVec 32) : BitVec 32 × BitVec 32 := mix 16#32 16#32 (w14 c)
/-- The pair after round 16. -/
def w16 (c : BitVec 32) : BitVec 32 × BitVec 32 := mixKey 24#32 8#32 42#32 466689012#32 (w15 c)
/-- The pair after round 17. -/
def w17 (c : BitVec 32) : BitVec 32 × BitVec 32 := mix 13#32 19#32 (w16 c)
/-- The pair after round 18. -/
def w18 (c : BitVec 32) : BitVec 32 × BitVec 32 := mix 15#32 17#32 (w17 c)
/-- The pair after round 19. -/
def w19 (c : BitVec 32) : BitVec 32 × BitVec 32 := mix 26#32 6#32 (w18 c)

/-- The 23 random bits of counter `c`. -/
def bits (c : BitVec 32) : BitVec 32 :=
  (((w19 c).1 + 466689008#32) ^^^ (((w19 c).1 ^^^ ((w19 c).2 <<< 6#32 ||| (w19 c).2 >>> 26#32)) + 5#32)) >>> 9#32

section Rounds
variable {s : Shape} {i : s.Idx} {X Y U1 U2 K Z : IVec s 32} {a b k0 k1 : BitVec 32} {p : BitVec 32 × BitVec 32}

/-- The rotation as the host writes it. -/
theorem host_rot (ha : a.toNat < 32) (hb : b.toNat < 32) (h1 : U1 i = a) (h2 : U2 i = b) (hY : Y i = p.2) :
    ori (Host.shli Y U1) (Host.shrui Y U2) i = (p.2 <<< a ||| p.2 >>> b) := by
  simp only [ori, Host.shli, Host.shrui, IntOp.ori, IntOp.shli, IntOp.shrui, h1, h2, hY, if_pos ha, if_pos hb]
/-- The rotation as the kernel writes it. -/
theorem tile_rot (ha : a.toNat < 32) (hb : b.toNat < 32) (h1 : U1 i = a) (h2 : U2 i = b) (hY : Y i = p.2) :
    ori (shli Y U1) (shrui Y U2) i = (p.2 <<< a ||| p.2 >>> b) := by
  simp only [ori, shli, shrui, IntOp.ori, IntOp.shli, IntOp.shrui, h1, h2, hY, if_pos ha, if_pos hb]
theorem xor_rot (hX : X i = p.1) (hY : Y i = (p.2 <<< a ||| p.2 >>> b)) : xori X Y i = (mix a b p).2 := by
  simp only [xori, IntOp.xori, hX, hY, mix]
theorem add_mix (hX : X i = p.1) (hY : Y i = (mix a b p).2) : addi X Y i = (mix a b p).1 := by
  simp only [addi, IntOp.addi, hX, hY, mix]
theorem key_snd (hX : X i = (mix a b p).2) (hK : K i = k1) : addi X K i = (mixKey a b k0 k1 p).2 := by
  simp only [addi, IntOp.addi, hX, hK, mix, mixKey]
theorem key_fst (hX : X i = p.1) (hK : K i = k0) (hY : Y i = (mixKey a b k0 k1 p).2) :
    addi (addi X K) Y i = (mixKey a b k0 k1 p).1 := by
  simp only [addi, IntOp.addi, hX, hK, hY, mixKey]
/-- The last round's end. -/
theorem last_bits {c : BitVec 32} {K5 : IVec s 32} (hX : X i = (w19 c).1) (hK : K i = 466689008#32) (hY : Y i = (mix 6#32 26#32 (w19 c)).2)
    (h5 : K5 i = 5#32) : xori (addi X K) (addi Y K5) i >>> 9#32 = bits c := by
  simp only [xori, addi, IntOp.xori, IntOp.addi, hX, hK, hY, h5, mix, bits]
end Rounds

section Host
open Cert.ReferenceIdeal Cert.ReferenceIdeal.Value
variable {F : FTy → Type} [FloatOps F] (V : Valuation τ sig (Elt F)) (i : S10000x10000.Idx)

theorem r0a : res_main_v35 V i = (w0 (res_main_v34 V i)).1 := by
  unfold res_main_v35; simp only [addi, IntOp.addi, w0]; rfl
theorem r0b : res_main_v34 V i = (w0 (res_main_v34 V i)).2 := rfl

theorem r1b : res_main_v41 V i = (w1 (res_main_v34 V i)).2 := by
  unfold res_main_v41; exact xor_rot (r0a V i) (host_rot (by decide) (by decide) rfl rfl (r0b V i))
theorem r1a : res_main_v42 V i = (w1 (res_main_v34 V i)).1 := by
  unfold res_main_v42; exact add_mix (r0a V i) (r1b V i)
theorem r2b : res_main_v48 V i = (w2 (res_main_v34 V i)).2 := by
  unfold res_main_v48; exact xor_rot (r1a V i) (host_rot (by decide) (by decide) rfl rfl (r1b V i))
theorem r2a : res_main_v49 V i = (w2 (res_main_v34 V i)).1 := by
  unfold res_main_v49; exact add_mix (r1a V i) (r2b V i)
theorem r3b : res_main_v55 V i = (w3 (res_main_v34 V i)).2 := by
  unfold res_main_v55; exact xor_rot (r2a V i) (host_rot (by decide) (by decide) rfl rfl (r2b V i))
theorem r3a : res_main_v56 V i = (w3 (res_main_v34 V i)).1 := by
  unfold res_main_v56; exact add_mix (r2a V i) (r3b V i)
theorem r4b : res_main_v66 V i = (w4 (res_main_v34 V i)).2 := by
  unfold res_main_v66; exact key_snd (xor_rot (r3a V i) (host_rot (by decide) (by decide) rfl rfl (r3b V i))) rfl
theorem r4a : res_main_v67 V i = (w4 (res_main_v34 V i)).1 := by
  unfold res_main_v67; exact key_fst (r3a V i) rfl (r4b V i)
theorem r5b : res_main_v73 V i = (w5 (res_main_v34 V i)).2 := by
  unfold res_main_v73; exact xor_rot (r4a V i) (host_rot (by decide) (by decide) rfl rfl (r4b V i))
theorem r5a : res_main_v74 V i = (w5 (res_main_v34 V i)).1 := by
  unfold res_main_v74; exact add_mix (r4a V i) (r5b V i)
theorem r6b : res_main_v80 V i = (w6 (res_main_v34 V i)).2 := by
  unfold res_main_v80; exact xor_rot (r5a V i) (host_rot (by decide) (by decide) rfl rfl (r5b V i))
theorem r6a : res_main_v81 V i = (w6 (res_main_v34 V i)).1 := by
  unfold res_main_v81; exact add_mix (r5a V i) (r6b V i)
theorem r7b : res_main_v87 V i = (w7 (res_main_v34 V i)).2 := by
  unfold res_main_v87; exact xor_rot (r6a V i) (host_rot (by decide) (by decide) rfl rfl (r6b V i))
theorem r7a : res_main_v88 V i = (w7 (res_main_v34 V i)).1 := by
  unfold res_main_v88; exact add_mix (r6a V i) (r7b V i)
theorem r8b : res_main_v98 V i = (w8 (res_main_v34 V i)).2 := by
  unfold res_main_v98; exact key_snd (xor_rot (r7a V i) (host_rot (by decide) (by decide) rfl rfl (r7b V i))) rfl
theorem r8a : res_main_v99 V i = (w8 (res_main_v34 V i)).1 := by
  unfold res_main_v99; exact key_fst (r7a V i) rfl (r8b V i)
theorem r9b : res_main_v105 V i = (w9 (res_main_v34 V i)).2 := by
  unfold res_main_v105; exact xor_rot (r8a V i) (host_rot (by decide) (by decide) rfl rfl (r8b V i))
theorem r9a : res_main_v106 V i = (w9 (res_main_v34 V i)).1 := by
  unfold res_main_v106; exact add_mix (r8a V i) (r9b V i)
theorem r10b : res_main_v112 V i = (w10 (res_main_v34 V i)).2 := by
  unfold res_main_v112; exact xor_rot (r9a V i) (host_rot (by decide) (by decide) rfl rfl (r9b V i))
theorem r10a : res_main_v113 V i = (w10 (res_main_v34 V i)).1 := by
  unfold res_main_v113; exact add_mix (r9a V i) (r10b V i)
theorem r11b : res_main_v119 V i = (w11 (res_main_v34 V i)).2 := by
  unfold res_main_v119; exact xor_rot (r10a V i) (host_rot (by decide) (by decide) rfl rfl (r10b V i))
theorem r11a : res_main_v120 V i = (w11 (res_main_v34 V i)).1 := by
  unfold res_main_v120; exact add_mix (r10a V i) (r11b V i)
theorem r12b : res_main_v130 V i = (w12 (res_main_v34 V i)).2 := by
  unfold res_main_v130; exact key_snd (xor_rot (r11a V i) (host_rot (by decide) (by decide) rfl rfl (r11b V i))) rfl
theorem r12a : res_main_v131 V i = (w12 (res_main_v34 V i)).1 := by
  unfold res_main_v131; exact key_fst (r11a V i) rfl (r12b V i)
theorem r13b : res_main_v137 V i = (w13 (res_main_v34 V i)).2 := by
  unfold res_main_v137; exact xor_rot (r12a V i) (host_rot (by decide) (by decide) rfl rfl (r12b V i))
theorem r13a : res_main_v138 V i = (w13 (res_main_v34 V i)).1 := by
  unfold res_main_v138; exact add_mix (r12a V i) (r13b V i)
theorem r14b : res_main_v144 V i = (w14 (res_main_v34 V i)).2 := by
  unfold res_main_v144; exact xor_rot (r13a V i) (host_rot (by decide) (by decide) rfl rfl (r13b V i))
theorem r14a : res_main_v145 V i = (w14 (res_main_v34 V i)).1 := by
  unfold res_main_v145; exact add_mix (r13a V i) (r14b V i)
theorem r15b : res_main_v151 V i = (w15 (res_main_v34 V i)).2 := by
  unfold res_main_v151; exact xor_rot (r14a V i) (host_rot (by decide) (by decide) rfl rfl (r14b V i))
theorem r15a : res_main_v152 V i = (w15 (res_main_v34 V i)).1 := by
  unfold res_main_v152; exact add_mix (r14a V i) (r15b V i)
theorem r16b : res_main_v162 V i = (w16 (res_main_v34 V i)).2 := by
  unfold res_main_v162; exact key_snd (xor_rot (r15a V i) (host_rot (by decide) (by decide) rfl rfl (r15b V i))) rfl
theorem r16a : res_main_v163 V i = (w16 (res_main_v34 V i)).1 := by
  unfold res_main_v163; exact key_fst (r15a V i) rfl (r16b V i)
theorem r17b : res_main_v169 V i = (w17 (res_main_v34 V i)).2 := by
  unfold res_main_v169; exact xor_rot (r16a V i) (host_rot (by decide) (by decide) rfl rfl (r16b V i))
theorem r17a : res_main_v170 V i = (w17 (res_main_v34 V i)).1 := by
  unfold res_main_v170; exact add_mix (r16a V i) (r17b V i)
theorem r18b : res_main_v176 V i = (w18 (res_main_v34 V i)).2 := by
  unfold res_main_v176; exact xor_rot (r17a V i) (host_rot (by decide) (by decide) rfl rfl (r17b V i))
theorem r18a : res_main_v177 V i = (w18 (res_main_v34 V i)).1 := by
  unfold res_main_v177; exact add_mix (r17a V i) (r18b V i)
theorem r19b : res_main_v183 V i = (w19 (res_main_v34 V i)).2 := by
  unfold res_main_v183; exact xor_rot (r18a V i) (host_rot (by decide) (by decide) rfl rfl (r18b V i))
theorem r19a : res_main_v184 V i = (w19 (res_main_v34 V i)).1 := by
  unfold res_main_v184; exact add_mix (r18a V i) (r19b V i)
end Host

section Tile
open Cert.KernelIdeal Cert.KernelIdeal.Gen
variable {F : FTy → Type} [FloatOps F] (g : grid2.Coords) (xs : Vec F S80x10000 .i32) (i : S80x10000.Idx)

theorem t0 : k2_pay9 (F := F) g xs i = (w0 (k2_pay8 (F := F) g xs i)).1 := by
  unfold k2_pay9; simp only [addi, IntOp.addi, w0]; rfl
theorem t0r : k2_pay10 (F := F) g xs i = ((w0 (k2_pay8 (F := F) g xs i)).2 <<< 13#32 ||| (w0 (k2_pay8 (F := F) g xs i)).2 >>> 19#32) :=
  tile_rot (p := w0 (k2_pay8 (F := F) g xs i)) (by decide) (by decide) rfl rfl rfl

section Part2
variable {i : S80x10000.Idx} {c : BitVec 32} {v30 v35 : IVec S80x10000 32} (hA : v30 i = (w0 c).1) (hB : v35 i = ((w0 c).2 <<< 13#32 ||| (w0 c).2 >>> 19#32))
include hA hB
theorem t1b : k2_pay11 v30 v35 i = (w1 c).2 := by
  unfold k2_pay11; exact xor_rot (p := w0 c) hA hB
theorem t1a : k2_pay12 v30 v35 i = (w1 c).1 := by
  unfold k2_pay12; exact add_mix (p := w0 c) hA (t1b hA hB)
theorem t2b : k2_pay13 v30 v35 i = (w2 c).2 := by
  unfold k2_pay13; exact xor_rot (p := w1 c) (t1a hA hB) (tile_rot (by decide) (by decide) rfl rfl (t1b hA hB))
theorem t2a : k2_pay14 v30 v35 i = (w2 c).1 := by
  unfold k2_pay14; exact add_mix (p := w1 c) (t1a hA hB) (t2b hA hB)
theorem t3b : k2_pay15 v30 v35 i = (w3 c).2 := by
  unfold k2_pay15; exact xor_rot (p := w2 c) (t2a hA hB) (tile_rot (by decide) (by decide) rfl rfl (t2b hA hB))
theorem t3a : k2_pay16 v30 v35 i = (w3 c).1 := by
  unfold k2_pay16; exact add_mix (p := w2 c) (t2a hA hB) (t3b hA hB)
theorem t4b : k2_pay17 v30 v35 i = (w4 c).2 := by
  unfold k2_pay17; exact key_snd (xor_rot (p := w3 c) (t3a hA hB) (tile_rot (by decide) (by decide) rfl rfl (t3b hA hB))) rfl
theorem t4a : k2_pay18 v30 v35 i = (w4 c).1 := by
  unfold k2_pay18; exact key_fst (p := w3 c) (t3a hA hB) rfl (t4b hA hB)
theorem t5b : k2_pay19 v30 v35 i = (w5 c).2 := by
  unfold k2_pay19; exact xor_rot (p := w4 c) (t4a hA hB) (tile_rot (by decide) (by decide) rfl rfl (t4b hA hB))
theorem t5a : k2_pay20 v30 v35 i = (w5 c).1 := by
  unfold k2_pay20; exact add_mix (p := w4 c) (t4a hA hB) (t5b hA hB)
theorem t6b : k2_pay21 v30 v35 i = (w6 c).2 := by
  unfold k2_pay21; exact xor_rot (p := w5 c) (t5a hA hB) (tile_rot (by decide) (by decide) rfl rfl (t5b hA hB))
theorem t6a : k2_pay22 v30 v35 i = (w6 c).1 := by
  unfold k2_pay22; exact add_mix (p := w5 c) (t5a hA hB) (t6b hA hB)
theorem t7r : k2_pay23 v30 v35 i = ((w6 c).2 <<< 16#32 ||| (w6 c).2 >>> 16#32) := by
  unfold k2_pay23; exact tile_rot (by decide) (by decide) rfl rfl (t6b hA hB)
end Part2

section Part3
variable {i : S80x10000.Idx} {c : BitVec 32} {v76 v81 : IVec S80x10000 32} (hA : v76 i = (w6 c).1) (hB : v81 i = ((w6 c).2 <<< 16#32 ||| (w6 c).2 >>> 16#32))
include hA hB
theorem t7b : k2_pay24 v76 v81 i = (w7 c).2 := by
  unfold k2_pay24; exact xor_rot (p := w6 c) hA hB
theorem t7a : k2_pay25 v76 v81 i = (w7 c).1 := by
  unfold k2_pay25; exact add_mix (p := w6 c) hA (t7b hA hB)
theorem t8b : k2_pay26 v76 v81 i = (w8 c).2 := by
  unfold k2_pay26; exact key_snd (xor_rot (p := w7 c) (t7a hA hB) (tile_rot (by decide) (by decide) rfl rfl (t7b hA hB))) rfl
theorem t8a : k2_pay27 v76 v81 i = (w8 c).1 := by
  unfold k2_pay27; exact key_fst (p := w7 c) (t7a hA hB) rfl (t8b hA hB)
theorem t9b : k2_pay28 v76 v81 i = (w9 c).2 := by
  unfold k2_pay28; exact xor_rot (p := w8 c) (t8a hA hB) (tile_rot (by decide) (by decide) rfl rfl (t8b hA hB))
theorem t9a : k2_pay29 v76 v81 i = (w9 c).1 := by
  unfold k2_pay29; exact add_mix (p := w8 c) (t8a hA hB) (t9b hA hB)
theorem t10b : k2_pay30 v76 v81 i = (w10 c).2 := by
  unfold k2_pay30; exact xor_rot (p := w9 c) (t9a hA hB) (tile_rot (by decide) (by decide) rfl rfl (t9b hA hB))
theorem t10a : k2_pay31 v76 v81 i = (w10 c).1 := by
  unfold k2_pay31; exact add_mix (p := w9 c) (t9a hA hB) (t10b hA hB)
theorem t11b : k2_pay32 v76 v81 i = (w11 c).2 := by
  unfold k2_pay32; exact xor_rot (p := w10 c) (t10a hA hB) (tile_rot (by decide) (by decide) rfl rfl (t10b hA hB))
theorem t11a : k2_pay33 v76 v81 i = (w11 c).1 := by
  unfold k2_pay33; exact add_mix (p := w10 c) (t10a hA hB) (t11b hA hB)
theorem t12b : k2_pay34 v76 v81 i = (w12 c).2 := by
  unfold k2_pay34; exact key_snd (xor_rot (p := w11 c) (t11a hA hB) (tile_rot (by decide) (by decide) rfl rfl (t11b hA hB))) rfl
theorem t12a : k2_pay35 v76 v81 i = (w12 c).1 := by
  unfold k2_pay35; exact key_fst (p := w11 c) (t11a hA hB) rfl (t12b hA hB)
end Part3

section Part4
variable {i : S80x10000.Idx} {c : BitVec 32} {v126 v125 : IVec S80x10000 32} (hA : v126 i = (w12 c).1) (hB : v125 i = (w12 c).2)
include hA hB
theorem t13b : k2_pay36 v125 v126 17#32 i = (w13 c).2 := by
  unfold k2_pay36; exact xor_rot (p := w12 c) hA (tile_rot (by decide) (by decide) rfl rfl hB)
theorem t13a : k2_pay37 v125 v126 17#32 i = (w13 c).1 := by
  unfold k2_pay37; exact add_mix (p := w12 c) hA (t13b hA hB)
theorem t14b : k2_pay38 v125 v126 17#32 i = (w14 c).2 := by
  unfold k2_pay38; exact xor_rot (p := w13 c) (t13a hA hB) (tile_rot (by decide) (by decide) rfl rfl (t13b hA hB))
theorem t14a : k2_pay39 v125 v126 17#32 i = (w14 c).1 := by
  unfold k2_pay39; exact add_mix (p := w13 c) (t13a hA hB) (t14b hA hB)
theorem t15b : k2_pay40 v125 v126 17#32 i = (w15 c).2 := by
  unfold k2_pay40; exact xor_rot (p := w14 c) (t14a hA hB) (tile_rot (by decide) (by decide) rfl rfl (t14b hA hB))
theorem t15a : k2_pay41 v125 v126 17#32 i = (w15 c).1 := by
  unfold k2_pay41; exact add_mix (p := w14 c) (t14a hA hB) (t15b hA hB)
theorem t16b : k2_pay42 v125 v126 17#32 i = (w16 c).2 := by
  unfold k2_pay42; exact key_snd (xor_rot (p := w15 c) (t15a hA hB) (tile_rot (by decide) (by decide) rfl rfl (t15b hA hB))) rfl
theorem t16a : k2_pay43 v125 v126 17#32 i = (w16 c).1 := by
  unfold k2_pay43; exact key_fst (p := w15 c) (t15a hA hB) rfl (t16b hA hB)
theorem t17b : k2_pay44 v125 v126 17#32 i = (w17 c).2 := by
  unfold k2_pay44; exact xor_rot (p := w16 c) (t16a hA hB) (tile_rot (by decide) (by decide) rfl rfl (t16b hA hB))
theorem t17a : k2_pay45 v125 v126 17#32 i = (w17 c).1 := by
  unfold k2_pay45; exact add_mix (p := w16 c) (t16a hA hB) (t17b hA hB)
theorem t18b : k2_pay46 v125 v126 17#32 i = (w18 c).2 := by
  unfold k2_pay46; exact xor_rot (p := w17 c) (t17a hA hB) (tile_rot (by decide) (by decide) rfl rfl (t17b hA hB))
theorem t18a : k2_pay47 v125 v126 17#32 i = (w18 c).1 := by
  unfold k2_pay47; exact add_mix (p := w17 c) (t17a hA hB) (t18b hA hB)
end Part4

end Tile

end Cert.Words
-- ==== Proof.Maths.Sorted.lean ====
module

public import Idealize.ShloMosaic.Lib.Pointwise
public import Idealize.ShloMosaic.Lib.SortFacts
public import proofs.«01_k».proof.Proof.Maths.Halving
public import proofs.«01_k».proof.Proof.Gen.ReferenceIdeal.Run

@[expose] public section

/-! The reference's sort of a row: the entries it keeps are the row's, in descending order. -/

noncomputable section

namespace Cert.Maths

open Idealize.ShloMosaic Cert.ReferenceIdeal

/-- Each row's kept entries are the row read in descending order through a permutation of its columns. -/
theorem topK_row (x : FVec Ideal S10000x10000 .f32) (h : S10000x10000.Slices (fun _ => 0) S10000x64) (R : Fin 10000) :
    ∃ σ : Fin 10000 → Fin 10000, Function.Bijective σ ∧ (∀ i j, i < j → x (ix2 R (σ j)) ≤ x (ix2 R (σ i))) ∧
      ∀ k : Fin 64, (Host.topK S10000x64 1 (FloatOps.cmpfTotal (F := Ideal) (φ := .f32) .gt) x h).1 (ix2 R k)
        = x (ix2 R (σ ⟨k.val, by omega⟩)) := by
  let B : Fin 10000 → Fin 10000 → Bool := fun k k' =>
    FloatOps.cmpfTotal (F := Ideal) (φ := .f32) .gt (x (ix2 R k)) (x (ix2 R k')) == 1#1
  have hB : ∀ a b, B a b = true ↔ x (ix2 R b) < x (ix2 R a) := by
    intro a b
    show (Ideal.cmpTotal .gt (x (ix2 R a)) (x (ix2 R b)) == 1#1) = true ↔ _
    simp only [Ideal.cmpTotal, CmpDirection.ordered, Ideal.cmp]
    by_cases hc : x (ix2 R b) < x (ix2 R a) <;> simp [hc]
  have hBf : ∀ a b, B a b = false ↔ x (ix2 R a) ≤ x (ix2 R b) := by
    intro a b
    rw [← not_lt, ← hB, Bool.not_eq_true]
  refine ⟨sortedFrom B, ⟨sortedFrom_injective B, sortedFrom_surjective B⟩, ?_, ?_⟩
  · intro i j hij
    have := sortedFrom_noInversion B B (fun a b hab => (hBf b a).2 ((hB a b).1 hab).le) (fun _ _ hab => hab)
      (fun a b c hab hbc => (hBf a c).2 (((hBf a b).1 hab).trans ((hBf b c).1 hbc))) i j hij
    exact (hBf _ _).1 this
  · intro k
    have key : ∀ (y : S10000x10000.Idx), y 0 = R →
        (Host.sort2 S10000x10000 1 (fun l r : Ideal .f32 × BitVec 32 => FloatOps.cmpfTotal (F := Ideal) (φ := .f32) .gt l.1 r.1) x
          (fun i => if hd : 1 < S10000x10000.rank then iotaInDim S10000x10000 32 ⟨1, hd⟩ i else 0#32)).1 y
          = x (ix2 R (sortedFrom B (y 1))) := by
      intro y hy
      have e : ∀ k : Fin 10000, y.along (s := S10000x10000) (1 : Fin 2) k = ix2 R k := by
        intro k; funext a
        match a with
        | ⟨0, _⟩ => exact hy
        | ⟨1, _⟩ => rfl
      have hd : 1 < S10000x10000.rank := by decide
      unfold Host.sort2
      rw [dif_pos hd]
      have eB : (fun k k' : Fin 10000 => FloatOps.cmpfTotal (F := Ideal) (φ := .f32) .gt
          (x (y.along (s := S10000x10000) (1 : Fin 2) k)) (x (y.along (s := S10000x10000) (1 : Fin 2) k')) == 1#1) = B := by
        funext k k'
        rw [e, e]
      exact (congrArg x (e _)).trans (congrArg (fun C : Fin 10000 → Fin 10000 → Bool => x (ix2 R (sortedFrom C (y 1)))) eB)
    exact key _ (Fin.ext (Nat.zero_add _)) |>.trans (by
      congr 3
      exact Fin.ext (Nat.zero_add _))

end Cert.Maths
-- ==== Proof.Maths.Gate.lean ====
module

public import Idealize.ShloMosaic.Lib.IdealHost
public import proofs.«01_k».proof.Proof.Maths.Halving
public import proofs.«01_k».proof.Proof.Maths.Scalar

@[expose] public section

/-! The gate at one element: the reference's sigmoid of the scaled distance to the threshold it reads off the sorted row,
against the kernel's sigmoid of the unscaled distance to the threshold it halves towards. -/

noncomputable section

namespace Cert.Maths

open Idealize.ShloMosaic

/-- The kernel's element: adjacency `a`, noisy value `p`, threshold `t`, scale `s`. -/
def gateK (a p t s : EReal) : EReal := max (a * Ideal.div 1 (1 + Ideal.exp ((0 - (p - t)) * s))) 0

/-- The reference's threshold, from the row's largest entry `M`, its 64th `V` and the lower end `L`, all scaled. -/
def gridThr (M V L : EReal) : EReal :=
  L + min (Ideal.liftRound Int.floor (Ideal.div (V - L) (Ideal.div (M - L) ((16384 : ℝ) : EReal)))) ((16383 : ℝ) : EReal)
    * Ideal.div (M - L) ((16384 : ℝ) : EReal)

/-- The reference's element: adjacency `a`, scaled noisy value `q`, scaled threshold `t`. -/
def gateR (a q t : EReal) : EReal := max (a * Ideal.div 1 (1 + Ideal.exp (-((q - t) * ((10 : ℝ) : EReal))))) 0

theorem div_real (x y : ℝ) (h : y ≠ 0) : Ideal.div (x : EReal) (y : EReal) = ((x / y : ℝ) : EReal) := by
  rw [Ideal.div_coe h, ← EReal.coe_mul]; congr 1; ring

/-- Division by an infinite temperature is zero. -/
theorem div_top (x : ℝ) : Ideal.div (x : EReal) ⊤ = 0 := by
  unfold Ideal.div
  rw [if_neg (by decide), EReal.inv_top, mul_zero]

/-- The two elements agree, at a positive temperature. -/
theorem gate_eq (T : EReal) (hT : 0 < T) (a : EReal) (p M V L : ℝ) (hLV : L ≤ V) (hLM : L < M) :
    gateK a p ((halve V L M 14).1 : ℝ) (Ideal.div ((10 : ℝ) : EReal) T)
      = gateR a (Ideal.div p T) (gridThr (Ideal.div M T) (Ideal.div V T) (Ideal.div L T)) := by
  induction T with
  | bot => exact absurd hT (by simp)
  | top =>
    have hs : gridThr 0 0 0 = 0 := by
      unfold gridThr
      rw [sub_zero, show (0 : EReal) = ((0 : ℝ) : EReal) from EReal.coe_zero.symm, div_real 0 16384 (by norm_num), zero_div]
      simp [Ideal.div]
    simp only [div_top]
    rw [hs]
    unfold gateK gateR
    simp
  | coe t =>
    have ht : 0 < t := by exact_mod_cast hT
    have ht' : t ≠ 0 := ht.ne'
    have hM : (0 : ℝ) < M - L := by linarith
    have hd : (M / t - L / t) / 16384 ≠ 0 := by
      have : (M / t - L / t) = (M - L) / t := by ring
      rw [this]; positivity
    have hq : (V / t - L / t) / ((M / t - L / t) / 16384) = (V - L) / ((M - L) / 16384) := by
      have h1 : (M / t - L / t) = (M - L) / t := by ring
      have h2 : (V / t - L / t) = (V - L) / t := by ring
      rw [h1, h2]
      have := hM.ne'
      field_simp
    have hthr : gridThr (Ideal.div M t) (Ideal.div V t) (Ideal.div L t) = (((halve V L M 14).1 / t : ℝ) : EReal) := by
      rw [halve_floor V L M hLV hLM]
      unfold gridThr
      rw [div_real _ _ ht', div_real _ _ ht', div_real _ _ ht', ← EReal.coe_sub, ← EReal.coe_sub, div_real _ _ (by norm_num),
        div_real _ _ hd, hq, Ideal.liftRound_coe, ← coe_min, ← EReal.coe_mul, ← EReal.coe_add]
      congr 1
      field_simp
    rw [hthr, div_real _ _ ht', div_real _ _ ht']
    unfold gateK gateR
    rw [← EReal.coe_sub, ← EReal.coe_sub, ← EReal.coe_zero, ← EReal.coe_sub, ← EReal.coe_mul, ← EReal.coe_mul, ← EReal.coe_neg]
    congr 6
    field_simp
    ring

end Cert.Maths
-- ==== Proof.Maths.Model.lean ====
module

public import Idealize.ShloMosaic.Lib.Pointwise
public import proofs.«01_k».proof.Proof.Maths.Scalar
public import proofs.«01_k».proof.Proof.Maths.Words
public import proofs.«01_k».proof.Proof.Maths.Sorted
public import proofs.«01_k».proof.Proof.Maths.Gate
public import proofs.«01_k».proof.Proof.Gen.ReferenceIdeal.Run

@[expose] public section

set_option maxRecDepth 8192

/-! The problem's intermediate values by name, and the reference's result at an element in terms of them. -/

noncomputable section

namespace Cert.Maths

open Idealize.ShloMosaic Cert.ReferenceIdeal Cert.ReferenceIdeal.Gen Cert.ReferenceIdeal.Value Cert.Words

/-- A node's embedding, after the linear layer and the saturation. -/
def emb (E : Vec Ideal S10000x128 .f32) (W : Vec Ideal S128x128 .f32) (b : Vec Ideal S128 .f32) (r : Fin 10000) (k : Fin 128) : EReal :=
  Ideal.tanh (Ideal.ofBits .f32 0x40400000#32 * (∑ x : Fin 128, E (ix2 r x) * W (ix2 k x) + b (ix1 k)))

theorem emb_real (E W b) (r : Fin 10000) (k : Fin 128) : ∃ x : ℝ, emb E W b r k = (x : EReal) := tanh_real _

/-- The symmetric similarity of two nodes. -/
def sim (n1 n2 : Fin 10000 → Fin 128 → EReal) (r q : Fin 10000) : EReal :=
  ((1 / 2 : ℝ) : EReal) * (∑ k, n1 r k * n2 q k + ∑ k, n2 r k * n1 q k)

/-- A node pair's counter. -/
def counter (r q : Fin 10000) : BitVec 32 := BitVec.ofNat 32 r.val * 10000#32 + BitVec.ofNat 32 q.val + 42#32

/-- The rows of a table at the given indices, wrapped once and not-a-number out of range. -/
def taken (idx : IVec S10000 32) (E : Vec Ideal S10000x128 .f32) : Vec Ideal S10000x128 .f32 :=
  let v5 := broadcastInDim S10000x1 ![0] bcast_S10000_S10000x1_0 (select (cmpi .slt idx (broadcastInDim S10000 ![] bcast_S_S10000 (constantI S_ 32 0#32))) (addi idx (broadcastInDim S10000 ![] bcast_S_S10000 (constantI S_ 32 10000#32))) idx)
  select (broadcastInDim S10000x128 ![0] bcast_S10000_S10000x128_0 (Host.reduce IntOp.andi (andi (cmpi .sge v5 (broadcastInDim S10000x1 ![] bcast_S_S10000x1 (constantI S_ 32 0#32))) (cmpi .sle v5 (broadcastInDim S10000x1 ![0, 1] bcast_S1x1_S10000x1_0_1 (broadcastInDim S1x1 ![1] bcast_S1_S1x1_1 (constantI S1 32 9999#32))))) (constantI S_ 1 1#1) reducesTo_S10000x1_S10000_d1 h_S_)) (Host.gather gather_S10000x128_S10000x1_S10000x128_1_0_n_n_0_1_1128 E v5) (broadcastInDim S10000x128 ![] bcast_S_S10000x128 (constant (F := Ideal) S_ .f32 0x7FC00000#32))

variable (V : Valuation τ sig (Elt Ideal))

/-- The reference's first and second embeddings. -/
def nodes1 : Fin 10000 → Fin 128 → EReal := emb (taken (V (Proc.devRef .tc main_arg0)) (V (Proc.devRef .tc main_arg1))) (V (Proc.devRef .tc main_arg3)) (V (Proc.devRef .tc main_arg4))
def nodes2 : Fin 10000 → Fin 128 → EReal := emb (taken (V (Proc.devRef .tc main_arg0)) (V (Proc.devRef .tc main_arg2))) (V (Proc.devRef .tc main_arg5)) (V (Proc.devRef .tc main_arg6))

theorem layer_apply (E : FVec Ideal S10000x128 .f32) (W : FVec Ideal S128x128 .f32) (b : FVec Ideal S128 .f32) (r : Fin 10000) (k : Fin 128) :
    Host.tanh (mulf (broadcastInDim S10000x128 ![] bcast_S_S10000x128 (constant S_ .f32 0x40400000#32)) (addf (Host.dotGeneral dot_S10000x128_S128x128_S10000x128_1_0_0_1_n_n none E (transpose S128x128 [1, 0] W transposes_S128x128_S128x128_1_0)) (broadcastInDim S10000x128 ![0, 1] bcast_S1x128_S10000x128_0_1 (broadcastInDim S1x128 ![1] bcast_S128_S1x128_1 b)))) (ix2 r k)
      = emb E W b r k := by
  pointwise
  rfl

theorem product_apply (A B : FVec Ideal S10000x128 .f32) (r q : Fin 10000) :
    Host.dotGeneral dot_S10000x128_S128x10000_S10000x10000_1_0_0_1_n_n none A (transpose S128x10000 [1, 0] B transposes_S10000x128_S128x10000_1_0) (ix2 r q)
      = ∑ k : Fin 128, A (ix2 r k) * B (ix2 q k) := by
  pointwise

theorem v19_apply (r q : Fin 10000) : res_main_v19 V (ix2 r q) = ∑ k, nodes1 V r k * nodes2 V q k := by
  unfold res_main_v19
  refine (product_apply _ _ r q).trans (Finset.sum_congr rfl fun k _ => ?_)
  rw [layer_apply, layer_apply]
  unfold nodes1 nodes2 taken res_main_call0_v5 res_main_call1_v5
  rfl

theorem v23_raw (A : FVec Ideal S10000x10000 .f32) (r q : Fin 10000) :
    Host.divf (addf A (transpose S10000x10000 [1, 0] A transposes_S10000x10000_S10000x10000_1_0)) (broadcastInDim S10000x10000 ![] bcast_S_S10000x10000 (constant S_ .f32 0x40000000#32)) (ix2 r q)
      = Ideal.div (A (ix2 r q) + A (ix2 q r)) (Ideal.ofBits .f32 0x40000000#32) := by
  pointwise

theorem v23_apply (r q : Fin 10000) : res_main_v23 V (ix2 r q) = sim (nodes1 V) (nodes2 V) r q := by
  have h : res_main_v23 V (ix2 r q) = _ := v23_raw (res_main_v19 V) r q
  rw [h, v19_apply, v19_apply, two_f32, Ideal.div_coe (by norm_num), mul_comm]
  unfold sim
  rw [show (∑ k, nodes1 V q k * nodes2 V r k) = ∑ k, nodes2 V r k * nodes1 V q k from Finset.sum_congr rfl fun k _ => mul_comm _ _]

theorem soft_apply (A : FVec Ideal S10000x10000 .f32) (r q : Fin 10000) :
    subf (select (cmpf .une (subf A (broadcastInDim S10000x10000 ![] bcast_S_S10000x10000 (constant S_ .f32 0x00000000#32))) (subf A (broadcastInDim S10000x10000 ![] bcast_S_S10000x10000 (constant S_ .f32 0x00000000#32)))) (addf A (broadcastInDim S10000x10000 ![] bcast_S_S10000x10000 (constant S_ .f32 0x00000000#32))) (addf (maximumf A (broadcastInDim S10000x10000 ![] bcast_S_S10000x10000 (constant S_ .f32 0x00000000#32))) (Host.log1p (Host.exp (Host.negf (Host.absf (subf A (broadcastInDim S10000x10000 ![] bcast_S_S10000x10000 (constant S_ .f32 0x00000000#32))))))))) (broadcastInDim S10000x10000 ![] bcast_S_S10000x10000 (constant S_ .f32 0x3F000000#32)) (ix2 r q)
      = softHalf (A (ix2 r q)) := by
  pointwise
  rw [if_neg (by simp)]
  rfl

theorem v26_apply (r q : Fin 10000) : res_main_v26 V (ix2 r q) = softHalf (sim (nodes1 V) (nodes2 V) r q) := by
  unfold res_main_v26 res_main_call2_v3 res_main_call2_cst
  refine (soft_apply _ r q).trans ?_
  rw [v23_apply]

theorem v34_apply (r q : Fin 10000) : res_main_v34 V (ix2 r q) = counter r q := by
  pointwise [res_main_v34]
  rfl

/-- The temperature the reference divides by. -/
def temp : EReal := (V (Proc.devRef .tc main_arg7) : FVec Ideal S_ .f32) ix0

theorem v211_raw (A : FVec Ideal S10000x10000 .f32) (W : IVec S10000x10000 32) (T : FVec Ideal S_ .f32) (r q : Fin 10000) :
    Host.divf (addf A (Host.negf (Host.log (addf (Host.negf (Host.log (addf (mulf (sitofp .f32 (Host.shrui W (broadcastInDim S10000x10000 ![] bcast_S_S10000x10000 (constantI S_ 32 9#32)))) (broadcastInDim S10000x10000 ![] bcast_S_S10000x10000 (constant S_ .f32 0x34000000#32))) (broadcastInDim S10000x10000 ![] bcast_S_S10000x10000 (constant S_ .f32 0x2EDBE6FF#32))))) (broadcastInDim S10000x10000 ![] bcast_S_S10000x10000 (constant S_ .f32 0x2EDBE6FF#32)))))) (broadcastInDim S10000x10000 ![] bcast_S_S10000x10000 T) (ix2 r q)
      = Ideal.div (A (ix2 r q) + noise (W (ix2 r q) >>> 9#32)) (T ix0) := by
  pointwise
  simp only [IntOp.shrui]
  rw [if_pos (by decide)]
  rfl

/-- The reference's scaled noisy value. -/
theorem v211_apply (r q : Fin 10000) :
    res_main_v211 V (ix2 r q) = Ideal.div (softHalf (sim (nodes1 V) (nodes2 V) r q) + noise (bits (counter r q))) (temp V) := by
  have ha := r19a V (ix2 r q)
  have hb := r19b V (ix2 r q)
  rw [v34_apply] at ha hb
  have h1 := host_rot (a := 6#32) (b := 26#32) (p := w19 (counter r q)) (U1 := broadcastInDim S10000x10000 ![] bcast_S_S10000x10000 (constantI S_ 32 6#32)) (U2 := broadcastInDim S10000x10000 ![] bcast_S_S10000x10000 (constantI S_ 32 26#32)) (by decide) (by decide) rfl rfl hb
  have h2 := xor_rot (p := w19 (counter r q)) ha h1
  have h3 := last_bits (K := broadcastInDim S10000x10000 ![] bcast_S_S10000x10000 (constantI S_ 32 466689008#32)) (K5 := broadcastInDim S10000x10000 ![] bcast_S_S10000x10000 (constantI S_ 32 5#32)) ha rfl h2 rfl
  unfold res_main_v211
  refine (v211_raw _ _ _ r q).trans ?_
  rw [h3, v26_apply]
  rfl

/-- The reference's result, as the run leaves it. -/
def result : FVec Ideal S10000x10000 .f32 :=
  maximumf (mulf (res_main_v26 V) (Host.divf (broadcastInDim S10000x10000 ![] bcast_S_S10000x10000 (constant S_ .f32 0x3F800000#32)) (addf (broadcastInDim S10000x10000 ![] bcast_S_S10000x10000 (constant S_ .f32 0x3F800000#32)) (Host.exp (Host.negf (mulf (subf (res_main_v211 V) (broadcastInDim S10000x10000 ![0, 1] bcast_S10000x1_S10000x10000_0_1 (addf (broadcastInDim S10000x1 ![] bcast_S_S10000x1 (res_main_v212 V)) (mulf (minimumf (Host.floor (Host.divf (subf (extractStridedSlice S10000x1 ![0, 63] (res_main_values V) slices_S10000x64_S10000x1_0_63) (broadcastInDim S10000x1 ![] bcast_S_S10000x1 (res_main_v212 V))) (res_main_v217 V))) (broadcastInDim S10000x1 ![] bcast_S_S10000x1 (constant S_ .f32 0x467FFC00#32))) (res_main_v217 V))))) (broadcastInDim S10000x10000 ![] bcast_S_S10000x10000 (constant S_ .f32 0x41200000#32)))))))) (broadcastInDim S10000x10000 ![] bcast_S_S10000x10000 (constant S_ .f32 0x00000000#32))

theorem result_raw (A Q : FVec Ideal S10000x10000 .f32) (K : FVec Ideal S10000x64 .f32) (L : FVec Ideal S_ .f32) (r q : Fin 10000) :
    maximumf (mulf A (Host.divf (broadcastInDim S10000x10000 ![] bcast_S_S10000x10000 (constant S_ .f32 0x3F800000#32)) (addf (broadcastInDim S10000x10000 ![] bcast_S_S10000x10000 (constant S_ .f32 0x3F800000#32)) (Host.exp (Host.negf (mulf (subf Q (broadcastInDim S10000x10000 ![0, 1] bcast_S10000x1_S10000x10000_0_1 (addf (broadcastInDim S10000x1 ![] bcast_S_S10000x1 L) (mulf (minimumf (Host.floor (Host.divf (subf (extractStridedSlice S10000x1 ![0, 63] K slices_S10000x64_S10000x1_0_63) (broadcastInDim S10000x1 ![] bcast_S_S10000x1 L)) (Host.divf (subf (extractStridedSlice S10000x1 ![0, 0] K slices_S10000x64_S10000x1_0_0) (broadcastInDim S10000x1 ![] bcast_S_S10000x1 L)) (broadcastInDim S10000x1 ![] bcast_S_S10000x1 (constant S_ .f32 0x46800000#32))))) (broadcastInDim S10000x1 ![] bcast_S_S10000x1 (constant S_ .f32 0x467FFC00#32))) (Host.divf (subf (extractStridedSlice S10000x1 ![0, 0] K slices_S10000x64_S10000x1_0_0) (broadcastInDim S10000x1 ![] bcast_S_S10000x1 L)) (broadcastInDim S10000x1 ![] bcast_S_S10000x1 (constant S_ .f32 0x46800000#32))))))) (broadcastInDim S10000x10000 ![] bcast_S_S10000x10000 (constant S_ .f32 0x41200000#32)))))))) (broadcastInDim S10000x10000 ![] bcast_S_S10000x10000 (constant S_ .f32 0x00000000#32)) (ix2 r q)
      = gateR (A (ix2 r q)) (Q (ix2 r q)) (gridThr (K (ix2 r ⟨0, by norm_num⟩)) (K (ix2 r ⟨63, by norm_num⟩)) (L ix0)) := by
  pointwise
  rw [steps_f32, lastStep_f32, ten_f32]
  rfl

/-- The reference's result at an element, from the row's kept entries. -/
theorem result_apply (r q : Fin 10000) :
    result V (ix2 r q) = gateR (softHalf (sim (nodes1 V) (nodes2 V) r q)) (res_main_v211 V (ix2 r q))
      (gridThr (res_main_values V (ix2 r ⟨0, by norm_num⟩)) (res_main_values V (ix2 r ⟨63, by norm_num⟩)) (Ideal.div ((lowEnd : ℝ) : EReal) (temp V))) := by
  unfold result res_main_v217
  refine (result_raw _ _ _ _ r q).trans ?_
  rw [v26_apply]
  congr 2
  rw [← lowEnd_f32]
  rfl

end Cert.Maths
-- ==== Proof.Maths.Rows.lean ====
module

public import proofs.«01_k».proof.Proof.Maths.Model

@[expose] public section

set_option maxRecDepth 8192

/-! The reference's result at a row, as the kernel's gate over the row's noisy values: real numbers above the grid's lower end,
read in descending order through a permutation of the columns. -/

noncomputable section

namespace Cert.Maths

open Idealize.ShloMosaic Cert.ReferenceIdeal Cert.ReferenceIdeal.Gen Cert.ReferenceIdeal.Value Cert.Words

theorem dot_real {n : ℕ} (f g : Fin n → EReal) (hf : ∀ k, ∃ x : ℝ, f k = (x : EReal)) (hg : ∀ k, ∃ x : ℝ, g k = (x : EReal)) :
    ∃ x : ℝ, ∑ k, f k * g k = (x : EReal) := by
  choose F hF using hf
  choose G hG using hg
  refine ⟨∑ k, F k * G k, ?_⟩
  have h : ∀ s : Finset (Fin n), ∑ k ∈ s, f k * g k = ((∑ k ∈ s, F k * G k : ℝ) : EReal) := by
    intro s
    induction s using Finset.cons_induction with
    | empty => simp
    | cons a s ha ih => rw [Finset.sum_cons, Finset.sum_cons, ih, hF, hG, EReal.coe_add, EReal.coe_mul]
  exact h _

theorem sim_real (n1 n2 : Fin 10000 → Fin 128 → EReal) (h1 : ∀ r k, ∃ x : ℝ, n1 r k = (x : EReal))
    (h2 : ∀ r k, ∃ x : ℝ, n2 r k = (x : EReal)) (r q : Fin 10000) : ∃ x : ℝ, sim n1 n2 r q = (x : EReal) := by
  obtain ⟨a, ha⟩ := dot_real (n1 r) (n2 q) (h1 r) (h2 q)
  obtain ⟨b, hb⟩ := dot_real (n2 r) (n1 q) (h2 r) (h1 q)
  refine ⟨(1 / 2) * (a + b), ?_⟩
  unfold sim
  rw [ha, hb, ← EReal.coe_add, ← EReal.coe_mul]

variable (V : Valuation τ sig (Elt Ideal))

/-- The noisy value of a node pair, before the temperature. -/
def pert (r q : Fin 10000) : EReal := softHalf (sim (nodes1 V) (nodes2 V) r q) + noise (bits (counter r q))

theorem pert_real (r q : Fin 10000) : ∃ x : ℝ, pert V r q = (x : EReal) ∧ lowEnd < x := by
  obtain ⟨s, hs⟩ := sim_real (nodes1 V) (nodes2 V) (fun r k => emb_real _ _ _ r k) (fun r k => emb_real _ _ _ r k) r q
  obtain ⟨a, ha, ha'⟩ := softHalf_real s
  obtain ⟨b, hb, hb'⟩ := noise_real (bits (counter r q)) (by
    unfold bits
    rw [BitVec.ushiftRight_eq', BitVec.toNat_ushiftRight, Nat.shiftRight_eq_div_pow]
    generalize (((w19 (counter r q)).1 + 466689008#32) ^^^ (((w19 (counter r q)).1 ^^^ ((w19 (counter r q)).2 <<< 6#32 ||| (w19 (counter r q)).2 >>> 26#32)) + 5#32)) = w
    have h : w.toNat < 4294967296 := w.isLt
    show w.toNat / 512 < 8388608
    omega)
  refine ⟨a + b, ?_, ?_⟩
  · unfold pert
    rw [hs, ha, hb, ← EReal.coe_add]
  · have : lowEnd < -(37 / 10) := by norm_num [lowEnd]
    linarith

/-- The kept entries of a row at a positive temperature: the scaled noisy values, in an order that sorts them unscaled. -/
theorem values_row (hT : 0 < temp V) (r : Fin 10000) (P : Fin 10000 → ℝ) (hP : ∀ q, pert V r q = ((P q : ℝ) : EReal)) :
    ∃ σ : Fin 10000 → Fin 10000, Function.Bijective σ ∧ (∀ i j, i < j → P (σ j) ≤ P (σ i)) ∧
      ∀ k : Fin 64, res_main_values V (ix2 r k) = Ideal.div ((P (σ ⟨k.val, by omega⟩) : ℝ) : EReal) (temp V) := by
  have hq : ∀ q, res_main_v211 V (ix2 r q) = Ideal.div ((P q : ℝ) : EReal) (temp V) := fun q =>
    (v211_apply V r q).trans (congrArg (fun x => Ideal.div x (temp V)) (hP q))
  obtain ⟨σ, hσ, hs, hv⟩ := topK_row (res_main_v211 V) sliceFits_S10000x10000_S10000x64 r
  generalize temp V = T at *
  induction T with
  | bot => exact absurd hT (by simp)
  | top =>
    obtain ⟨σ', hσ', hs', -⟩ := topK_row (fun i => pert V (i 0) (i 1)) sliceFits_S10000x10000_S10000x64 r
    refine ⟨σ', hσ', fun i j hij => ?_, fun k => ?_⟩
    · have h : pert V r (σ' j) ≤ pert V r (σ' i) := hs' i j hij
      rw [hP, hP, EReal.coe_le_coe_iff] at h
      exact h
    · refine (hv k).trans ?_
      rw [hq, div_top, div_top]
  | coe t =>
    have ht : 0 < t := by exact_mod_cast hT
    refine ⟨σ, hσ, fun i j hij => ?_, fun k => (hv k).trans (hq _)⟩
    have h := hs i j hij
    rw [hq, hq, div_real _ _ ht.ne', div_real _ _ ht.ne', EReal.coe_le_coe_iff] at h
    exact (div_le_div_iff_of_pos_right ht).1 h

/-- The reference's row, as the kernel computes it. -/
theorem row (hT : 0 < temp V) (r : Fin 10000) : ∃ (P : Fin 10000 → ℝ) (σ : Fin 10000 → Fin 10000),
    (∀ q, pert V r q = ((P q : ℝ) : EReal)) ∧ Function.Bijective σ ∧ (∀ i j, i < j → P (σ j) ≤ P (σ i)) ∧
      ∀ q, result V (ix2 r q) = gateK (softHalf (sim (nodes1 V) (nodes2 V) r q)) (P q)
        ((halve (P (σ ⟨63, by norm_num⟩)) lowEnd (P (σ ⟨0, by norm_num⟩)) 14).1 : ℝ) (Ideal.div ((10 : ℝ) : EReal) (temp V)) := by
  choose P hP hL using pert_real V r
  obtain ⟨σ, hσ, hs, hv⟩ := values_row V hT r P hP
  refine ⟨P, σ, hP, hσ, hs, fun q => ?_⟩
  rw [result_apply, hv, hv, v211_apply, gate_eq (temp V) hT _ _ _ _ _ (hL _).le (hL _)]
  have h : softHalf (sim (nodes1 V) (nodes2 V) r q) + noise (bits (counter r q)) = ((P q : ℝ) : EReal) := hP q
  rw [h]

end Cert.Maths
-- ==== Proof.Maths.Bisect.lean ====
module

public import Idealize.ShloMosaic.Lib.Pointwise
public import proofs.«01_k».proof.Proof.Maths.Halving
public import proofs.«01_k».proof.Proof.Maths.Scalar
public import proofs.«01_k».proof.Proof.Maths.Gate
public import proofs.«01_k».proof.Proof.KernelIdeal.Adj

@[expose] public section

/-! The kernel's 14 halvings of a row's interval, as halvings towards the row's 64th largest entry, and the element the
kernel's third stage writes from them. -/

noncomputable section

namespace Cert.Maths

open Idealize.ShloMosaic Cert.KernelIdeal Cert.KernelIdeal.Gen Cert.KernelIdeal.Whole

/-- A comparison's bit, widened and read as a number. -/
theorem bit_number (c : Prop) [Decidable c] :
    (FloatOps.sitofp .f32 (BitVec.setWidth 32 (BitVec.ofBool (decide c))) : Ideal .f32) = if c then (1 : EReal) else 0 := by
  show (((BitVec.setWidth 32 (BitVec.ofBool (decide c))).toInt : ℝ) : EReal) = _
  by_cases h : c <;> simp [h]

/-- The count of a row's entries that reach the midpoint, compared with 64. -/
theorem count_row (lo hi : FVec Ideal S80x1 .f32) (p : Vec Ideal S80x10000 .f32) (r : Fin 80) (P : Fin 10000 → ℝ) (L M : ℝ)
    (hP : ∀ j, p (ix2 r j) = ((P j : ℝ) : EReal)) (hl : lo (ix2 r 0) = ((L : ℝ) : EReal)) (hh : hi (ix2 r 0) = ((M : ℝ) : EReal)) :
    k2_pay2 lo hi p (ix2 r 0)
      = BitVec.ofBool (decide (64 ≤ (Finset.univ.filter fun j => (1 / 2) * (L + M) ≤ P j).card)) := by
  pointwise [k2_pay2, k2_pay1]
  simp only [bit_number, hP, hl, hh, half_f32, k_f32, ← EReal.coe_add, ← EReal.coe_mul, EReal.coe_le_coe_iff]
  rw [Finset.sum_boole]
  congr 2
  rw [show (((Finset.univ.filter fun j => (1 / 2) * (L + M) ≤ P j).card : ℕ) : EReal)
    = (((Finset.univ.filter fun j => (1 / 2) * (L + M) ≤ P j).card : ℝ) : EReal) from EReal.coe_natCast.symm, EReal.coe_le_coe_iff]
  exact propext (by exact_mod_cast Iff.rfl)

/-- The midpoint at a row. -/
theorem mid_row (lo hi : FVec Ideal S80x1 .f32) (r : Fin 80) (L M : ℝ)
    (hl : lo (ix2 r 0) = ((L : ℝ) : EReal)) (hh : hi (ix2 r 0) = ((M : ℝ) : EReal)) :
    k2_pay1 lo hi (ix2 r 0) = (((1 / 2) * (L + M) : ℝ) : EReal) := by
  pointwise [k2_pay1]
  rw [hl, hh, half_f32, ← EReal.coe_add, ← EReal.coe_mul]

/-- A trip's new lower bound at a row. -/
theorem pay3_row (lo hi : FVec Ideal S80x1 .f32) (p : Vec Ideal S80x10000 .f32) (r : Fin 80) :
    k2_pay3 lo hi p (ix2 r 0) = Scalar.select (k2_pay2 lo hi p (ix2 r 0)) (k2_pay1 lo hi (ix2 r 0)) (lo (ix2 r 0)) := by
  pointwise [k2_pay3]

/-- A trip's new upper bound at a row. -/
theorem pay4_row (lo hi : FVec Ideal S80x1 .f32) (p : Vec Ideal S80x10000 .f32) (r : Fin 80) :
    k2_pay4 lo hi p (ix2 r 0) = Scalar.select (k2_pay2 lo hi p (ix2 r 0)) (hi (ix2 r 0)) (k2_pay1 lo hi (ix2 r 0)) := by
  pointwise [k2_pay4]

/-- Before trip `n` the two bounds of row `r` are `n` halvings towards the row's 64th largest entry. -/
theorem bisect_row (p : Vec Ideal S80x10000 .f32) (lo hi : FVec Ideal S80x1 .f32) (r : Fin 80)
    (P : Fin 10000 → ℝ) (L M : ℝ) (hP : ∀ j, p (ix2 r j) = ((P j : ℝ) : EReal))
    (hl : lo (ix2 r 0) = ((L : ℝ) : EReal)) (hh : hi (ix2 r 0) = ((M : ℝ) : EReal))
    (σ : Fin 10000 → Fin 10000) (hσ : Function.Bijective σ) (hs : ∀ i j, i < j → P (σ j) ≤ P (σ i)) (n : ℕ) :
    (bisect p (lo, hi) n).1 (ix2 r 0) = (((halve (P (σ ⟨63, by norm_num⟩)) L M n).1 : ℝ) : EReal)
      ∧ (bisect p (lo, hi) n).2 (ix2 r 0) = (((halve (P (σ ⟨63, by norm_num⟩)) L M n).2 : ℝ) : EReal) := by
  induction n with
  | zero => exact ⟨hl, hh⟩
  | succ n ih =>
    obtain ⟨h1, h2⟩ := ih
    have hc := count_row _ _ p r P _ _ hP h1 h2
    have hm := mid_row _ _ r _ _ h1 h2
    have hk := le_sorted_iff P σ hσ hs ⟨63, by norm_num⟩ ((1 / 2) * ((halve (P (σ ⟨63, by norm_num⟩)) L M n).1 + (halve (P (σ ⟨63, by norm_num⟩)) L M n).2))
    rw [bisect]
    dsimp only
    rw [pay3_row, pay4_row, hc, hm, h1, h2]
    show _ = (((if _ then _ else _ : ℝ × ℝ).1 : ℝ) : EReal) ∧ _ = (((if _ then _ else _ : ℝ × ℝ).2 : ℝ) : EReal)
    by_cases h : (1 / 2) * ((halve (P (σ ⟨63, by norm_num⟩)) L M n).1 + (halve (P (σ ⟨63, by norm_num⟩)) L M n).2) ≤ P (σ ⟨63, by norm_num⟩)
    · rw [if_pos h, decide_eq_true (by simpa using hk.1 h)]
      exact ⟨rfl, rfl⟩
    · rw [if_neg h, decide_eq_false (fun hc => h (hk.2 (by simpa using hc)))]
      exact ⟨rfl, rfl⟩

/-- A row's largest entry, as the kernel reduces it. -/
theorem fold_top (P : Fin 10000 → ℝ) (f : Fin 10000 → EReal) (hf : ∀ j, f j = ((P j : ℝ) : EReal)) (σ : Fin 10000 → Fin 10000)
    (hσ : Function.Bijective σ) (hs : ∀ i j, i < j → P (σ j) ≤ P (σ i)) :
    (Finset.univ : Finset (Fin 10000)).fold max (Ideal.ofBits .f32 0xFF800000#32) f = ((P (σ ⟨0, by norm_num⟩) : ℝ) : EReal) := by
  apply le_antisymm
  · rw [Finset.fold_max_le]
    refine ⟨by rw [bot_f32]; exact bot_le, fun j _ => ?_⟩
    rw [hf, EReal.coe_le_coe_iff]
    exact le_sorted_first P σ hσ hs ⟨0, by norm_num⟩ rfl j
  · rw [Finset.le_fold_max]
    exact Or.inr ⟨σ ⟨0, by norm_num⟩, Finset.mem_univ _, (hf _).ge⟩

/-- The element the third stage writes, at a row whose noisy values are the real numbers `P`. -/
theorem adjOut_row (i : grid2.Coords) (x0 : Vec Ideal S1x1 .f32) (x1 : Vec Ideal S80x256 .f32) (x2 : Vec Ideal S256x10000 .f32)
    (xs : Vec Ideal S80x10000 .i32) (r : Fin 80) (q : Fin 10000) (P : Fin 10000 → ℝ)
    (hP : ∀ j, noisy i x1 x2 xs (ix2 r j) = ((P j : ℝ) : EReal)) (σ : Fin 10000 → Fin 10000)
    (hσ : Function.Bijective σ) (hs : ∀ i j, i < j → P (σ j) ≤ P (σ i)) :
    adjOut i x0 x1 x2 xs (ix2 r q)
      = gateK (k2_pay7 x1 x2 (ix2 r q)) (P q) ((halve (P (σ ⟨63, by norm_num⟩)) lowEnd (P (σ ⟨0, by norm_num⟩)) 14).1 : ℝ) (x0 (ix2 0 0)) := by
  have hN : shapeCast S80x10000 (noisy i x1 x2 xs) shapeCasts_S80x10000_S80x10000 = noisy i x1 x2 xs := shapeCast_id _ _
  have ht : noisyTop i x1 x2 xs (ix2 r 0) = ((P (σ ⟨0, by norm_num⟩) : ℝ) : EReal) := by
    refine Eq.trans ?_ (fold_top P (fun j => noisy i x1 x2 xs (ix2 r j)) hP σ hσ hs)
    unfold noisyTop noisy
    pointwise [k2_pay50]
  have hl : (k2_pay51 (F := Ideal)) (ix2 r 0) = ((lowEnd : ℝ) : EReal) := by
    pointwise [k2_pay51]
    exact lowEnd_f32
  have hb := (bisect_row (noisy i x1 x2 xs) k2_pay51 (noisyTop i x1 x2 xs) r P _ _ hP hl ht σ hσ hs 14).1
  have hx : Shape.Idx.first (s := S1x1) (by decide) = ix2 0 0 := by
    funext a
    match a with
    | ⟨0, _⟩ => rfl
    | ⟨1, _⟩ => rfl
  unfold adjOut
  rw [hN]
  generalize k2_pay7 x1 x2 = A
  generalize noisy i x1 x2 xs = N at *
  generalize (bisect N (k2_pay51, noisyTop i x1 x2 xs) 14).1 = B at *
  pointwise [k2_pay5]
  rw [hb, hP, hx]
  rfl

end Cert.Maths
-- ==== Proof.Maths.Perturbed.lean ====
module

public import Idealize.ShloMosaic.Lib.Pointwise
public import proofs.«01_k».proof.Proof.Maths.Scalar
public import proofs.«01_k».proof.Proof.Maths.Words
public import proofs.«01_k».proof.Proof.KernelIdeal.Adj

@[expose] public section

/-! The kernel's noisy value at an element: the halved softplus of the similarity plus the noise of the element's random word. -/

noncomputable section

namespace Cert.Maths

open Idealize.ShloMosaic Cert.KernelIdeal Cert.KernelIdeal.Gen Cert.KernelIdeal.Whole Cert.Words

theorem shift_lt (w : BitVec 32) : (w >>> 9#32).toNat < 8388608 := by
  have h : w.toNat < 4294967296 := w.isLt
  rw [BitVec.ushiftRight_eq', BitVec.toNat_ushiftRight, Nat.shiftRight_eq_div_pow]
  show w.toNat / 512 < 8388608
  omega

theorem bits_lt (c : BitVec 32) : (bits c).toNat < 8388608 := by
  unfold bits
  exact shift_lt _

/-- The noise the kernel adds, from the word before its last shift. -/
theorem tail_apply (A : FVec Ideal S80x10000 .f32) (W : IVec S80x10000 32) (r : Fin 80) (q : Fin 10000) :
    addf A (subf (broadcast S80x10000 (Scalar.ofBits .f32 0x00000000#32)) (log (addf (subf (broadcast S80x10000 (Scalar.ofBits .f32 0x00000000#32)) (log (addf (subf (bitcastToFloat .f32 (ori (shrui W (broadcast S80x10000 9#32)) (broadcast S80x10000 1065353216#32))) (broadcast S80x10000 (Scalar.ofBits .f32 0x3F800000#32))) (broadcast S80x10000 (Scalar.ofBits .f32 0x2EDBE6FF#32))))) (broadcast S80x10000 (Scalar.ofBits .f32 0x2EDBE6FF#32))))) (ix2 r q)
      = A (ix2 r q) + (0 - Ideal.log ((0 - Ideal.log (Ideal.ofBits .f32 (W (ix2 r q) >>> 9#32 ||| 1065353216#32) - 1 + Ideal.ofBits .f32 0x2EDBE6FF#32)) + Ideal.ofBits .f32 0x2EDBE6FF#32)) := by
  pointwise
  simp only [IntOp.ori, IntOp.shrui]
  rw [if_pos (by decide)]

/-- The noisy value at an element whose counter is `c`. -/
theorem pay48_apply (A : FVec Ideal S80x10000 .f32) (v171 v172 : IVec S80x10000 32) (r : Fin 80) (q : Fin 10000) (c : BitVec 32)
    (h1 : v171 (ix2 r q) = (w18 c).2) (h2 : v172 (ix2 r q) = (w18 c).1) :
    k2_pay48 A v171 v172 26#32 (ix2 r q) = A (ix2 r q) + noise (bits c) := by
  have a178 := xor_rot (p := w18 c) h2 (tile_rot (a := 26#32) (b := 6#32) (Y := v171) (U1 := broadcast S80x10000 26#32) (U2 := broadcast S80x10000 6#32) (by decide) (by decide) rfl rfl h1)
  have a179 := add_mix (p := w18 c) h2 a178
  have a184 := tile_rot (a := 6#32) (b := 26#32) (p := w19 c) (U1 := broadcast S80x10000 6#32) (U2 := broadcast S80x10000 26#32) (by decide) (by decide) rfl rfl a178
  have a185 := xor_rot (p := w19 c) a179 a184
  have hb := last_bits (K := broadcast S80x10000 466689008#32) (K5 := broadcast S80x10000 5#32) a179 rfl a185 rfl
  unfold k2_pay48
  refine (tail_apply _ _ r q).trans ?_
  rw [hb, fraction_eq _ (bits_lt c), zero_sub, zero_sub]
  rfl

/-- The noisy value of the block at `i`. -/
theorem noisy_apply (i : grid2.Coords) (x1 : Vec Ideal S80x256 .f32) (x2 : Vec Ideal S256x10000 .f32)
    (xs : Vec Ideal S80x10000 .i32) (r : Fin 80) (q : Fin 10000) :
    noisy i x1 x2 xs (ix2 r q) = k2_pay7 x1 x2 (ix2 r q) + noise (bits (k2_pay8 (F := Ideal) i xs (ix2 r q))) := by
  have h0 := t0 (F := Ideal) i xs (ix2 r q)
  have h0r := t0r (F := Ideal) i xs (ix2 r q)
  have h6 := t6a h0 h0r
  have h7 := t7r h0 h0r
  exact pay48_apply _ _ _ r q _ (t18b (t12a h6 h7) (t12b h6 h7)) (t18a (t12a h6 h7) (t12b h6 h7))

/-- The similarity's halved softplus at an element. -/
theorem pay7_apply (x1 : Vec Ideal S80x256 .f32) (x2 : Vec Ideal S256x10000 .f32) (r : Fin 80) (q : Fin 10000) :
    k2_pay7 x1 x2 (ix2 r q) = softHalf (((1 / 2 : ℝ) : EReal) * ∑ k, x1 (ix2 r k) * x2 (ix2 k q)) := by
  pointwise [k2_pay7]
  rw [zero_sub, half_f32]
  unfold softHalf
  rw [half_f32]
  rfl

end Cert.Maths
-- ==== Proof.Maths.Block.lean ====
module

public import proofs.«01_k».proof.Proof.Maths.Arrays
public import proofs.«01_k».proof.Proof.Maths.Rows
public import proofs.«01_k».proof.Proof.Maths.Bisect
public import proofs.«01_k».proof.Proof.Maths.Perturbed

@[expose] public section

set_option maxRecDepth 8192

/-! One grid point of the third region computes its eighty rows of the reference's result. -/

noncomputable section

namespace Cert.Maths

open Idealize.ShloMosaic Idealize.ShloMosaic.TcCoe
open Cert.KernelIdeal Cert.KernelIdeal.Gen Cert.KernelIdeal.Whole Cert.Words

/-- The block's similarity: the products over both embeddings at once. -/
theorem block_sim (n1 n2 : Fin 10000 → Fin 128 → EReal) (R q : Fin 10000) :
    ((1 / 2 : ℝ) : EReal) * ∑ k : Fin 256, beside n1 n2 (ix2 R k) * above n1 n2 (ix2 k q) = sim n1 n2 R q := by
  have h1 : ∀ k : Fin 128, beside n1 n2 (ix2 R (⟨k.val, by omega⟩ : Fin 256)) * above n1 n2 (ix2 (⟨k.val, by omega⟩ : Fin 256) q) = n1 R k * n2 q k := fun k => by
    rw [beside_left n1 n2 _ R k rfl rfl, above_top n1 n2 _ q k rfl rfl]
  have h2 : ∀ k : Fin 128, beside n1 n2 (ix2 R (⟨128 + k.val, by omega⟩ : Fin 256)) * above n1 n2 (ix2 (⟨128 + k.val, by omega⟩ : Fin 256) q) = n2 R k * n1 q k := fun k => by
    rw [beside_right n1 n2 _ R k rfl rfl, above_bottom n1 n2 _ q k rfl rfl]
  unfold sim
  rw [Fin.sum_univ_two_halves 128 128 rfl]
  refine congrArg _ (congrArg₂ (· + ·) (Finset.sum_congr rfl fun k _ => h1 k) (Finset.sum_congr rfl fun k _ => h2 k))

theorem counter_raw (i : grid2.Coords) (r : Fin 80) (q : Fin 10000) :
    k2_pay8 (F := Ideal) i k2_pay6 (ix2 r q)
      = IntOp.addi (IntOp.addi (IntOp.addi (IntOp.muli (BitVec.ofNat 32 r.val) 10000#32) (BitVec.ofNat 32 q.val)) (Scalar.muli (BitVec.ofNat 32 (i 0).val) 800000#32)) 42#32 := by
  pointwise [k2_pay8, k2_pay6]

theorem counter_words (r q t : ℕ) :
    IntOp.addi (IntOp.addi (IntOp.addi (IntOp.muli (BitVec.ofNat 32 r) 10000#32) (BitVec.ofNat 32 q)) (Scalar.muli (BitVec.ofNat 32 t) 800000#32)) 42#32
      = BitVec.ofNat 32 (t * 80 + r) * 10000#32 + BitVec.ofNat 32 q + 42#32 := by
  show BitVec.ofNat 32 r * 10000#32 + BitVec.ofNat 32 q + BitVec.ofNat 32 t * 800000#32 + 42#32 = _
  apply BitVec.eq_of_toNat_eq
  simp only [BitVec.toNat_add, BitVec.toNat_mul, BitVec.toNat_ofNat]
  omega

variable (V : Valuation Cert.ReferenceIdeal.τ Cert.ReferenceIdeal.sig (Elt Ideal))

/-- Eighty rows of the result. -/
theorem block (hT : 0 < temp V) (i : grid2.Coords) (x0 : Vec Ideal S1x1 .f32) (x1 : Vec Ideal S80x256 .f32)
    (x2 : Vec Ideal S256x10000 .f32) (r : Fin 80) (q : Fin 10000) (hr : (i 0).val * 80 + r.val < 10000)
    (h0 : x0 (ix2 0 0) = Ideal.div ((10 : ℝ) : EReal) (temp V))
    (h1 : ∀ k, x1 (ix2 r k) = beside (nodes1 V) (nodes2 V) (ix2 ⟨(i 0).val * 80 + r.val, hr⟩ k))
    (h2 : ∀ k j, x2 (ix2 k j) = above (nodes1 V) (nodes2 V) (ix2 k j)) :
    adjOut i x0 x1 x2 k2_pay6 (ix2 r q) = result V (ix2 ⟨(i 0).val * 80 + r.val, hr⟩ q) := by
  obtain ⟨P, σ, hP, hσ, hs, hv⟩ := row V hT ⟨(i 0).val * 80 + r.val, hr⟩
  have h7 : ∀ j, k2_pay7 x1 x2 (ix2 r j) = softHalf (sim (nodes1 V) (nodes2 V) ⟨(i 0).val * 80 + r.val, hr⟩ j) := by
    intro j
    rw [pay7_apply, ← block_sim]
    simp only [h1, h2]
  have h8 : ∀ j, noisy i x1 x2 k2_pay6 (ix2 r j) = ((P j : ℝ) : EReal) := by
    intro j
    have hc : k2_pay8 (F := Ideal) i k2_pay6 (ix2 r j) = counter ⟨(i 0).val * 80 + r.val, hr⟩ j :=
      (counter_raw i r j).trans (counter_words _ _ _)
    rw [noisy_apply, h7, hc]
    exact hP j
  rw [adjOut_row i x0 x1 x2 k2_pay6 r q P h8 σ hσ hs, hv, h7, h0]

/-- The third region's array is the reference's result. -/
theorem arr2_result (hT : 0 < temp V) (W : (c : Dev nD) → (b : Ref sig .tc) → Buf (Elt Ideal) ((c : Thread nD τ).loc b)) (c : Dev nD)
    (h0 : W c main_call0_v9 (ix2 0 0) = Ideal.div ((10 : ℝ) : EReal) (temp V))
    (h1 : W c main_call0_v4 = beside (nodes1 V) (nodes2 V)) (h2 : W c main_call0_v7 = above (nodes1 V) (nodes2 V)) :
    (dat2 W c).arrAt 3 cfg2.N = result V := by
  refine arr2 W c (result V) fun t r q => ?_
  have ht : (grid2.coords t 0).val = t.val := point2 t
  have hr : (grid2.coords t 0).val * 80 + r.val < 10000 := by rw [ht]; exact lt2 t r
  refine (block V hT (grid2.coords t) _ _ _ r q hr ((blk2_0 W c t).trans h0) (fun k => ?_) fun k j => ?_).trans ?_
  · rw [blk2_1, h1]
    congr 1
    blk_ext [ht]
  · rw [blk2_2, h2]
  · congr 1
    blk_ext [ht]

end Cert.Maths
-- ==== Proof.Maths.Host.lean ====
module

public import Idealize.ShloMosaic.Lib.StableHlo.ReadAt
public import proofs.«01_k».proof.Proof.Maths.Model
public import proofs.«01_k».proof.Proof.KernelIdeal.Run

@[expose] public section

set_option maxRecDepth 8192

/-! What the kernel's host operations leave for its three regions. -/

noncomputable section

namespace Cert.Maths

open Idealize.ShloMosaic Idealize.ShloMosaic.TcCoe
open Cert.KernelIdeal Cert.KernelIdeal.Gen Cert.KernelIdeal.Whole

variable (V : Valuation Cert.KernelIdeal.τ Cert.KernelIdeal.sig (Elt Ideal))

theorem take1 : StableHlo.after (hostOps0 (F := Ideal)) V (Proc.devRef .tc main_call0_v0)
    = taken (V (Proc.devRef .tc main_arg0)) (V (Proc.devRef .tc main_arg1)) := by
  after_reads_simp
  simp -implicitDefEqProofs only [StableHlo.TRef.toBuf, StableHlo.TRef.ofBuf, cast_cast, cast_eq]
  rfl

theorem take2 : StableHlo.after (hostOps0 (F := Ideal)) V (Proc.devRef .tc main_call0_v1)
    = taken (V (Proc.devRef .tc main_arg0)) (V (Proc.devRef .tc main_arg2)) := by
  after_reads_simp
  simp -implicitDefEqProofs only [StableHlo.TRef.toBuf, StableHlo.TRef.ofBuf, cast_cast, cast_eq]
  rfl

theorem row1 (k : Fin 128) : StableHlo.after (hostOps0 (F := Ideal)) V (Proc.devRef .tc main_call0_v2) (ix2 0 k) = V (Proc.devRef .tc main_arg4) (ix1 k) := by
  after_reads_at

theorem row2 (k : Fin 128) : StableHlo.after (hostOps0 (F := Ideal)) V (Proc.devRef .tc main_call0_v3) (ix2 0 k) = V (Proc.devRef .tc main_arg6) (ix1 k) := by
  after_reads_at

theorem col1 (k : Fin 128) : StableHlo.after (hostOps1 (F := Ideal)) V (Proc.devRef .tc main_call0_v5) (ix2 k 0) = V (Proc.devRef .tc main_arg4) (ix1 k) := by
  after_reads_at

theorem col2 (k : Fin 128) : StableHlo.after (hostOps1 (F := Ideal)) V (Proc.devRef .tc main_call0_v6) (ix2 k 0) = V (Proc.devRef .tc main_arg6) (ix1 k) := by
  after_reads_at

theorem sharpness : StableHlo.after (hostOps2 (F := Ideal)) V (Proc.devRef .tc main_call0_v9) (ix2 0 0)
    = Ideal.div ((10 : ℝ) : EReal) ((V (Proc.devRef .tc main_arg7) : FVec Ideal S_ .f32) ix0) := by
  rw [← ten_f32]
  after_reads_at

end Cert.Maths
-- ==== Proof.Maths.Value.lean ====
module

public import proofs.«01_k».proof.Defs
public import proofs.«01_k».proof.Proof.Maths.Block
public import proofs.«01_k».proof.Proof.Maths.Host

@[expose] public section

set_option maxRecDepth 8192

/-! The array the kernel leaves is the reference's result at the same arguments. -/

noncomputable section

namespace Cert.Maths

open Idealize.ShloMosaic Idealize.ShloMosaic.TcCoe
open Cert.KernelIdeal Cert.KernelIdeal.Gen Cert.KernelIdeal.Whole

variable (m : (ℓ : Loc nD τ sig) → Buf (Elt Ideal) ℓ) (ρ : Dev nD → PrngReg) (c : Dev nD)
variable (V : Valuation Cert.ReferenceIdeal.τ Cert.ReferenceIdeal.sig (Elt Ideal))

/-- A layer over a bias read through another array is the embedding. -/
theorem layer_emb (E : S10000x128.Idx → EReal) (W : S128x128.Idx → EReal) (b : S128.Idx → EReal) (b' : Fin 128 → EReal)
    (h : ∀ k, b' k = b (ix1 k)) : layer E W b' = emb E W b := by
  obtain rfl : b' = fun k => b (ix1 k) := funext h
  rfl

/-- The side-by-side embeddings, as the first region leaves them. -/
theorem first_array : W2 m ρ c (Proc.devRef .tc main_call0_v4) = beside
    (emb (taken (m ((c : Thread nD τ).loc main_arg0)) (m ((c : Thread nD τ).loc main_arg1))) (m ((c : Thread nD τ).loc main_arg3)) (m ((c : Thread nD τ).loc main_arg4)))
    (emb (taken (m ((c : Thread nD τ).loc main_arg0)) (m ((c : Thread nD τ).loc main_arg2))) (m ((c : Thread nD τ).loc main_arg5)) (m ((c : Thread nD τ).loc main_arg6))) := by
  refine (W2_arr m ρ c 6).trans ((arr0 (V1 m ρ) c).trans ?_)
  have e1 : V1 m ρ c main_call0_v0 = taken (m ((c : Thread nD τ).loc main_arg0)) (m ((c : Thread nD τ).loc main_arg1)) := take1 (W0 m ρ c)
  have e2 : V1 m ρ c main_call0_v1 = taken (m ((c : Thread nD τ).loc main_arg0)) (m ((c : Thread nD τ).loc main_arg2)) := take2 (W0 m ρ c)
  have e3 : V1 m ρ c main_arg3 = m ((c : Thread nD τ).loc main_arg3) := W1_args m ρ c main_arg3 (by decide)
  have e5 : V1 m ρ c main_arg5 = m ((c : Thread nD τ).loc main_arg5) := W1_args m ρ c main_arg5 (by decide)
  rw [e1, e2, e3, e5, layer_emb _ _ (m ((c : Thread nD τ).loc main_arg4)) _ (fun k => row1 (W0 m ρ c) k),
    layer_emb _ _ (m ((c : Thread nD τ).loc main_arg6)) _ (fun k => row2 (W0 m ρ c) k)]

/-- The transposed embeddings, as the second region leaves them. -/
theorem second_array : W4 m ρ c (Proc.devRef .tc main_call0_v7) = above
    (emb (taken (m ((c : Thread nD τ).loc main_arg0)) (m ((c : Thread nD τ).loc main_arg1))) (m ((c : Thread nD τ).loc main_arg3)) (m ((c : Thread nD τ).loc main_arg4)))
    (emb (taken (m ((c : Thread nD τ).loc main_arg0)) (m ((c : Thread nD τ).loc main_arg2))) (m ((c : Thread nD τ).loc main_arg5)) (m ((c : Thread nD τ).loc main_arg6))) := by
  refine (W4_arr m ρ c 6).trans ((arr1 (V3 m ρ) c).trans ?_)
  have e1 : V3 m ρ c main_call0_v0 = taken (m ((c : Thread nD τ).loc main_arg0)) (m ((c : Thread nD τ).loc main_arg1)) :=
    (W3_of m ρ c main_call0_v0 (by decide)).trans ((W2_of m ρ c main_call0_v0 (by decide)).trans (take1 (W0 m ρ c)))
  have e2 : V3 m ρ c main_call0_v1 = taken (m ((c : Thread nD τ).loc main_arg0)) (m ((c : Thread nD τ).loc main_arg2)) :=
    (W3_of m ρ c main_call0_v1 (by decide)).trans ((W2_of m ρ c main_call0_v1 (by decide)).trans (take2 (W0 m ρ c)))
  have e3 : V3 m ρ c main_arg3 = m ((c : Thread nD τ).loc main_arg3) := W3_args m ρ c main_arg3 (by decide)
  have e5 : V3 m ρ c main_arg5 = m ((c : Thread nD τ).loc main_arg5) := W3_args m ρ c main_arg5 (by decide)
  have b4 : W2 m ρ c (Proc.devRef .tc main_arg4) = m ((c : Thread nD τ).loc main_arg4) := W2_args m ρ c main_arg4 (by decide)
  have b6 : W2 m ρ c (Proc.devRef .tc main_arg6) = m ((c : Thread nD τ).loc main_arg6) := W2_args m ρ c main_arg6 (by decide)
  rw [e1, e2, e3, e5, layer_emb _ _ (m ((c : Thread nD τ).loc main_arg4)) _ (fun k => (col1 (W2 m ρ c) k).trans (congrFun b4 _)),
    layer_emb _ _ (m ((c : Thread nD τ).loc main_arg6)) _ (fun k => (col2 (W2 m ρ c) k).trans (congrFun b6 _))]

/-- The kernel's array, over a reference valuation that agrees with the kernel's arguments. -/
theorem kernel_result (hT : 0 < temp V)
    (h0 : V (Proc.devRef .tc Cert.ReferenceIdeal.main_arg0) = m ((c : Thread nD τ).loc main_arg0))
    (h1 : V (Proc.devRef .tc Cert.ReferenceIdeal.main_arg1) = m ((c : Thread nD τ).loc main_arg1))
    (h2 : V (Proc.devRef .tc Cert.ReferenceIdeal.main_arg2) = m ((c : Thread nD τ).loc main_arg2))
    (h3 : V (Proc.devRef .tc Cert.ReferenceIdeal.main_arg3) = m ((c : Thread nD τ).loc main_arg3))
    (h4 : V (Proc.devRef .tc Cert.ReferenceIdeal.main_arg4) = m ((c : Thread nD τ).loc main_arg4))
    (h5 : V (Proc.devRef .tc Cert.ReferenceIdeal.main_arg5) = m ((c : Thread nD τ).loc main_arg5))
    (h6 : V (Proc.devRef .tc Cert.ReferenceIdeal.main_arg6) = m ((c : Thread nD τ).loc main_arg6))
    (h7 : V (Proc.devRef .tc Cert.ReferenceIdeal.main_arg7) = m ((c : Thread nD τ).loc main_arg7)) :
    (dat2 (V5 m ρ) c).arrAt 3 cfg2.N = result V := by
  have n1 : nodes1 V = emb (taken (m ((c : Thread nD τ).loc main_arg0)) (m ((c : Thread nD τ).loc main_arg1))) (m ((c : Thread nD τ).loc main_arg3)) (m ((c : Thread nD τ).loc main_arg4)) := by
    unfold nodes1; rw [h0, h1, h3, h4]
  have n2 : nodes2 V = emb (taken (m ((c : Thread nD τ).loc main_arg0)) (m ((c : Thread nD τ).loc main_arg2))) (m ((c : Thread nD τ).loc main_arg5)) (m ((c : Thread nD τ).loc main_arg6)) := by
    unfold nodes2; rw [h0, h2, h5, h6]
  have e7 : W4 m ρ c (Proc.devRef .tc main_arg7) = m ((c : Thread nD τ).loc main_arg7) := W4_args m ρ c main_arg7 (by decide)
  refine arr2_result V hT (V5 m ρ) c ((sharpness (W4 m ρ c)).trans ?_) ?_ ?_
  · unfold temp
    rw [h7, e7]
  · rw [n1, n2]
    exact (W5_of m ρ c main_call0_v4 (by decide)).trans ((W4_of m ρ c main_call0_v4 (by decide)).trans
      ((W3_of m ρ c main_call0_v4 (by decide)).trans (first_array m ρ c)))
  · rw [n1, n2]
    exact (W5_of m ρ c main_call0_v7 (by decide)).trans (second_array m ρ c)

/-- The precondition, as an order. -/
theorem positive_of (x : Vec Ideal S_ .f32) (h : cmpf .ogt x (constant (F := Ideal) S_ .f32 0x00000000#32) = fun _ => 1#1) : 0 < x ix0 := by
  have h' : cmpf .ogt x (constant (F := Ideal) S_ .f32 0x00000000#32) ix0 = 1#1 := congrFun h ix0
  have e : cmpf .ogt x (constant (F := Ideal) S_ .f32 0x00000000#32) ix0 = BitVec.ofBool (decide (0 < x ix0)) := by
    pointwise
  rw [e] at h'
  by_contra hx
  rw [decide_eq_false hx] at h'
  exact absurd h' (by decide)

end Cert.Maths
-- ==== Proof.lean ====
module

public import proofs.«01_k».proof.Defs
public import proofs.«01_k».proof.Proof.Gen.ReferenceIdeal
public import proofs.«01_k».proof.Proof.Gen.ReferenceIdeal.Run
public import proofs.«01_k».proof.Proof.Kernel.Run
public import proofs.«01_k».proof.Proof.KernelIdeal.Run
public import proofs.«01_k».proof.Proof.Maths.Value
public import Idealize.ShloMosaic.Adequacy
public import Idealize.ShloMosaic.Init

@[expose] public section

set_option maxRecDepth 8192

noncomputable section

namespace Cert.Proof

open Idealize.ShloMosaic Idealize.SL.Sem Cert.Kernel

theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The precondition states no side condition of its own. -/
theorem temperature_facts : Cert.Pre_positive_temperature.Facts := ⟨⟩

theorem algebraic : Cert.algebraic_KernelIdeal_ReferenceIdeal_pre_positive_temperature (hPre_positive_temperature := temperature_facts) := by
  intro m g m' g' hpre hag
  have hv : ∀ c, (Cert.KernelIdeal.Whole.dat2 (Cert.KernelIdeal.Whole.V5 m g) c).arrAt 3 Cert.KernelIdeal.cfg2.N = Cert.Maths.result (StableHlo.launchContents m' c) := by
    intro c
    obtain ⟨h0, h1, h2, h3, h4, h5, h6, h7⟩ := hag c
    refine Cert.Maths.kernel_result m g c (StableHlo.launchContents m' c) ?_ h0 h1 h2 h3 h4 h5 h6 h7
    have hp : (0 : EReal) < (m ((c.tc : Thread Cert.KernelIdeal.nD Cert.KernelIdeal.τ).loc Cert.KernelIdeal.main_arg7)) ix0 := Cert.Maths.positive_of _ (hpre c)
    rw [← h7] at hp
    exact hp
  refine ⟨fun c => Cert.Maths.result (StableHlo.launchContents m' c), ?_, ?_⟩
  · refine (θ_run Cert.KernelIdeal.defs _ _).mono (fun r h c => ⟨(h c).1.trans (hv c), (h c).2⟩) (Cert.KernelIdeal.Whole.value m g)
  · exact Cert.ReferenceIdeal.Value.run (F := Ideal) m' g'

theorem claim : Cert.Claim := ⟨Cert.Kernel.Gen.facts, Cert.KernelIdeal.Gen.facts, Cert.ReferenceIdeal.Gen.facts, temperature_facts,
  fun m ρ _ => Cert.Kernel.Whole.frame m ρ,
  fun m ρ _ => Cert.KernelIdeal.Whole.frame m ρ,
  fun m ρ _ => Cert.KernelIdeal.Whole.frame m ρ,
  reference_frame,
  fun m ρ _ => reference_frame m ρ trivial,
  trivial,
  algebraic⟩

end Cert.Proof

end
